-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x512 : Shape := ⟨2, ![4096, 512]⟩
abbrev S1 : Shape := ⟨1, ![1]⟩
abbrev S4x512x4096 : Shape := ⟨3, ![4, 512, 4096]⟩
abbrev S2x64x4096 : Shape := ⟨3, ![2, 64, 4096]⟩
abbrev S64x64x512 : Shape := ⟨3, ![64, 64, 512]⟩
abbrev S4x8 : Shape := ⟨2, ![4, 8]⟩
abbrev S2 : Shape := ⟨1, ![2]⟩
abbrev S_ : Shape := ⟨0, ![]⟩
abbrev S64 : Shape := ⟨1, ![64]⟩
abbrev S1x64x4096 : Shape := ⟨3, ![1, 64, 4096]⟩
abbrev S64x4096 : Shape := ⟨2, ![64, 4096]⟩
abbrev S1x1 : Shape := ⟨2, ![1, 1]⟩
abbrev S64x512 : Shape := ⟨2, ![64, 512]⟩
abbrev S1x64x512 : Shape := ⟨3, ![1, 64, 512]⟩

abbrev nBuf : Space → Nat
  | .hbm => 5
  | .vmem => 6
  | .smem => 2
  | _ => 0

abbrev bufTy : (tb : Table) → Fin (tcTables nBuf tb) → BufTy
  | .hbm, ⟨0, _⟩ => ⟨S1024x4096, .f32⟩
  | .hbm, ⟨1, _⟩ => ⟨S4096x512, .f32⟩
  | .hbm, ⟨2, _⟩ => ⟨S1, .f32⟩
  | .hbm, ⟨3, _⟩ => ⟨S1, .f32⟩
  | .hbm, ⟨4, _⟩ => ⟨S4096x512, .f32⟩
  | .local _ .vmem, ⟨0, _⟩ => ⟨S4x512x4096, .fp8e4m3⟩
  | .local _ .vmem, ⟨1, _⟩ => ⟨S4x512x4096, .fp8e4m3⟩
  | .local _ .vmem, ⟨2, _⟩ => ⟨S2x64x4096, .f32⟩
  | .local _ .vmem, ⟨3, _⟩ => ⟨S4096x512, .f32⟩
  | .local _ .vmem, ⟨4, _⟩ => ⟨S4096x512, .fp8e5m2⟩
  | .local _ .vmem, ⟨5, _⟩ => ⟨S64x64x512, .f32⟩
  | .local _ .smem, ⟨0, _⟩ => ⟨S1, .f32⟩
  | .local _ .smem, ⟨1, _⟩ => ⟨S1, .f32⟩
  | _, _ => ⟨S1024x4096, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 197 → Bool
  | ⟨i, _⟩ => dmaSemScopedAt i

abbrev sig : RefSig :=
  (ofTc nBuf bufTy 1 197 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_16 : BitVec 32 := 1#32
  let v19 : BitVec 32 := Scalar.muli v5 c1_i32_16
  let v20 : BitVec 32 := Scalar.addi c0_i32_17 v19
  v20.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_19 : BitVec 32 := 1#32
  let v21 : BitVec 32 := Scalar.muli v7 c1_i32_19
  let v22 : BitVec 32 := Scalar.addi c0_i32_20 v21
  v22.toNat
def k0_dev3 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_43 : BitVec 32 := 1#32
  let v39 : BitVec 32 := Scalar.muli v7 c1_i32_43
  let v40 : BitVec 32 := Scalar.addi c0_i32_44 v39
  v40.toNat
def k0_dev4 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_71 : BitVec 32 := 1#32
  let v65 : BitVec 32 := Scalar.muli v5 c1_i32_71
  let v66 : BitVec 32 := Scalar.addi c0_i32_72 v65
  v66.toNat
def k0_dev5 (d0 : Dev nD) : Nat :=
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_99 : BitVec 32 := 1#32
  let v91 : BitVec 32 := Scalar.muli v7 c1_i32_99
  let v92 : BitVec 32 := Scalar.addi c0_i32_100 v91
  v92.toNat
def k0_dev6 (d0 : Dev nD) : Nat :=
  let c0_i32_129 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_128 : BitVec 32 := 1#32
  let v117 : BitVec 32 := Scalar.muli v5 c1_i32_128
  let v118 : BitVec 32 := Scalar.addi c0_i32_129 v117
  v118.toNat
def k0_dev7 (d0 : Dev nD) : Nat :=
  let c0_i32_157 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_156 : BitVec 32 := 1#32
  let v143 : BitVec 32 := Scalar.muli v7 c1_i32_156
  let v144 : BitVec 32 := Scalar.addi c0_i32_157 v143
  v144.toNat
def k0_dev8 (d0 : Dev nD) : Nat :=
  let c0_i32_186 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_185 : BitVec 32 := 1#32
  let v169 : BitVec 32 := Scalar.muli v5 c1_i32_185
  let v170 : BitVec 32 := Scalar.addi c0_i32_186 v169
  v170.toNat
def k0_dev9 (d0 : Dev nD) : Nat :=
  let c0_i32_213 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_212 : BitVec 32 := 1#32
  let v195 : BitVec 32 := Scalar.muli v7 c1_i32_212
  let v196 : BitVec 32 := Scalar.addi c0_i32_213 v195
  v196.toNat
def k0_dev10 (d0 : Dev nD) : Nat :=
  let c0_i32_242 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_241 : BitVec 32 := 1#32
  let v221 : BitVec 32 := Scalar.muli v5 c1_i32_241
  let v222 : BitVec 32 := Scalar.addi c0_i32_242 v221
  v222.toNat
def k0_dev11 (d0 : Dev nD) : Nat :=
  let c0_i32_270 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_269 : BitVec 32 := 1#32
  let v247 : BitVec 32 := Scalar.muli v7 c1_i32_269
  let v248 : BitVec 32 := Scalar.addi c0_i32_270 v247
  v248.toNat
def k0_dev12 (d0 : Dev nD) : Nat :=
  let c0_i32_299 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_298 : BitVec 32 := 1#32
  let v273 : BitVec 32 := Scalar.muli v5 c1_i32_298
  let v274 : BitVec 32 := Scalar.addi c0_i32_299 v273
  v274.toNat
def k0_dev13 (d0 : Dev nD) : Nat :=
  let c0_i32_326 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_325 : BitVec 32 := 1#32
  let v299 : BitVec 32 := Scalar.muli v7 c1_i32_325
  let v300 : BitVec 32 := Scalar.addi c0_i32_326 v299
  v300.toNat
def k0_dev14 (d0 : Dev nD) : Nat :=
  let c0_i32_355 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_354 : BitVec 32 := 1#32
  let v325 : BitVec 32 := Scalar.muli v5 c1_i32_354
  let v326 : BitVec 32 := Scalar.addi c0_i32_355 v325
  v326.toNat
def k0_dev15 (d0 : Dev nD) : Nat :=
  let c0_i32_382 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_381 : BitVec 32 := 1#32
  let v351 : BitVec 32 := Scalar.muli v7 c1_i32_381
  let v352 : BitVec 32 := Scalar.addi c0_i32_382 v351
  v352.toNat
def k0_dev16 (d0 : Dev nD) : Nat :=
  let c0_i32_411 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_410 : BitVec 32 := 1#32
  let v377 : BitVec 32 := Scalar.muli v5 c1_i32_410
  let v378 : BitVec 32 := Scalar.addi c0_i32_411 v377
  v378.toNat
def k0_dev17 (d0 : Dev nD) : Nat :=
  let c0_i32_433 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_432 : BitVec 32 := 1#32
  let v398 : BitVec 32 := Scalar.muli v7 c1_i32_432
  let v399 : BitVec 32 := Scalar.addi c0_i32_433 v398
  v399.toNat
def k0_dev18 (d0 : Dev nD) : Nat :=
  let c0_i32_457 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_456 : BitVec 32 := 1#32
  let v419 : BitVec 32 := Scalar.muli v5 c1_i32_456
  let v420 : BitVec 32 := Scalar.addi c0_i32_457 v419
  v420.toNat
def k0_off1 (d0 : Dev nD) (c0_i32_477 : BitVec 32) (c0_i32_478 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v448 : BitVec 32 := Scalar.muli v2 c1024_i32
  let v449 : BitVec 32 := Scalar.addi v448 c0_i32_477
  let v450 : BitVec 32 := Scalar.addi v449 c0_i32_478
  let c0_i32_481 : BitVec 32 := 0#32
  ![v450.toNat, 0]
def k0_dev19 (d0 : Dev nD) : Nat :=
  let c0_i32_751 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_750 : BitVec 32 := 1#32
  let v749 : BitVec 32 := Scalar.muli v7 c1_i32_750
  let v750 : BitVec 32 := Scalar.addi c0_i32_751 v749
  v750.toNat
def k0_off2 (d0 : Dev nD) (c3_i32_756 : BitVec 32) (c0_i32_768 : BitVec 32) (c0_i32_769 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v759 : BitVec 32 := Scalar.addi v2 c3_i32_756
  let c4_i32_757 : BitVec 32 := 4#32
  let v760 : BitVec 32 := Scalar.remsi v759 c4_i32_757
  let c1024_i32_767 : BitVec 32 := 1024#32
  let v772 : BitVec 32 := Scalar.muli v760 c1024_i32_767
  let v773 : BitVec 32 := Scalar.addi v772 c0_i32_768
  let v774 : BitVec 32 := Scalar.addi v773 c0_i32_769
  let c0_i32_771 : BitVec 32 := 0#32
  ![v774.toNat, 0]
def k0_dev20 (d0 : Dev nD) : Nat :=
  let c0_i32_793 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_792 : BitVec 32 := 1#32
  let v788 : BitVec 32 := Scalar.muli v5 c1_i32_792
  let v789 : BitVec 32 := Scalar.addi c0_i32_793 v788
  v789.toNat
def k0_dev21 (d0 : Dev nD) : Nat :=
  let c0_i32_835 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_834 : BitVec 32 := 1#32
  let v827 : BitVec 32 := Scalar.muli v7 c1_i32_834
  let v828 : BitVec 32 := Scalar.addi c0_i32_835 v827
  v828.toNat
def k0_dev22 (d0 : Dev nD) : Nat :=
  let c0_i32_877 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_876 : BitVec 32 := 1#32
  let v866 : BitVec 32 := Scalar.muli v5 c1_i32_876
  let v867 : BitVec 32 := Scalar.addi c0_i32_877 v866
  v867.toNat
def k0_dev23 (d0 : Dev nD) : Nat :=
  let c0_i32_919 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_918 : BitVec 32 := 1#32
  let v905 : BitVec 32 := Scalar.muli v7 c1_i32_918
  let v906 : BitVec 32 := Scalar.addi c0_i32_919 v905
  v906.toNat
def k0_dev24 (d0 : Dev nD) : Nat :=
  let c0_i32_961 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_960 : BitVec 32 := 1#32
  let v944 : BitVec 32 := Scalar.muli v5 c1_i32_960
  let v945 : BitVec 32 := Scalar.addi c0_i32_961 v944
  v945.toNat
def k0_dev25 (d0 : Dev nD) : Nat :=
  let c0_i32_1003 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1002 : BitVec 32 := 1#32
  let v983 : BitVec 32 := Scalar.muli v7 c1_i32_1002
  let v984 : BitVec 32 := Scalar.addi c0_i32_1003 v983
  v984.toNat
def k0_dev26 (d0 : Dev nD) : Nat :=
  let c0_i32_1045 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1044 : BitVec 32 := 1#32
  let v1022 : BitVec 32 := Scalar.muli v5 c1_i32_1044
  let v1023 : BitVec 32 := Scalar.addi c0_i32_1045 v1022
  v1023.toNat
def k0_dev27 (d0 : Dev nD) : Nat :=
  let c0_i32_1087 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1086 : BitVec 32 := 1#32
  let v1061 : BitVec 32 := Scalar.muli v7 c1_i32_1086
  let v1062 : BitVec 32 := Scalar.addi c0_i32_1087 v1061
  v1062.toNat
def k0_dev28 (d0 : Dev nD) : Nat :=
  let c0_i32_1129 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1128 : BitVec 32 := 1#32
  let v1100 : BitVec 32 := Scalar.muli v5 c1_i32_1128
  let v1101 : BitVec 32 := Scalar.addi c0_i32_1129 v1100
  v1101.toNat
def k0_dev29 (d0 : Dev nD) : Nat :=
  let c0_i32_1171 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1170 : BitVec 32 := 1#32
  let v1139 : BitVec 32 := Scalar.muli v7 c1_i32_1170
  let v1140 : BitVec 32 := Scalar.addi c0_i32_1171 v1139
  v1140.toNat
def k0_dev30 (d0 : Dev nD) : Nat :=
  let c0_i32_1213 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1212 : BitVec 32 := 1#32
  let v1178 : BitVec 32 := Scalar.muli v5 c1_i32_1212
  let v1179 : BitVec 32 := Scalar.addi c0_i32_1213 v1178
  v1179.toNat
def k0_dev31 (d0 : Dev nD) : Nat :=
  let c0_i32_1255 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1254 : BitVec 32 := 1#32
  let v1217 : BitVec 32 := Scalar.muli v7 c1_i32_1254
  let v1218 : BitVec 32 := Scalar.addi c0_i32_1255 v1217
  v1218.toNat
def k0_dev32 (d0 : Dev nD) : Nat :=
  let c0_i32_1297 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1296 : BitVec 32 := 1#32
  let v1256 : BitVec 32 := Scalar.muli v5 c1_i32_1296
  let v1257 : BitVec 32 := Scalar.addi c0_i32_1297 v1256
  v1257.toNat
def k0_dev33 (d0 : Dev nD) : Nat :=
  let c0_i32_1339 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1338 : BitVec 32 := 1#32
  let v1295 : BitVec 32 := Scalar.muli v7 c1_i32_1338
  let v1296 : BitVec 32 := Scalar.addi c0_i32_1339 v1295
  v1296.toNat
def k0_dev34 (d0 : Dev nD) : Nat :=
  let c0_i32_1381 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1380 : BitVec 32 := 1#32
  let v1334 : BitVec 32 := Scalar.muli v5 c1_i32_1380
  let v1335 : BitVec 32 := Scalar.addi c0_i32_1381 v1334
  v1335.toNat
def k0_dev35 (d0 : Dev nD) : Nat :=
  let c0_i32_1423 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1422 : BitVec 32 := 1#32
  let v1373 : BitVec 32 := Scalar.muli v7 c1_i32_1422
  let v1374 : BitVec 32 := Scalar.addi c0_i32_1423 v1373
  v1374.toNat
def k0_dev36 (d0 : Dev nD) : Nat :=
  let c0_i32_1465 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1464 : BitVec 32 := 1#32
  let v1412 : BitVec 32 := Scalar.muli v5 c1_i32_1464
  let v1413 : BitVec 32 := Scalar.addi c0_i32_1465 v1412
  v1413.toNat
def k0_dev37 (d0 : Dev nD) : Nat :=
  let c0_i32_1507 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1506 : BitVec 32 := 1#32
  let v1451 : BitVec 32 := Scalar.muli v7 c1_i32_1506
  let v1452 : BitVec 32 := Scalar.addi c0_i32_1507 v1451
  v1452.toNat
def k0_dev38 (d0 : Dev nD) : Nat :=
  let c0_i32_1549 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1548 : BitVec 32 := 1#32
  let v1490 : BitVec 32 := Scalar.muli v5 c1_i32_1548
  let v1491 : BitVec 32 := Scalar.addi c0_i32_1549 v1490
  v1491.toNat
def k0_dev39 (d0 : Dev nD) : Nat :=
  let c0_i32_1591 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1590 : BitVec 32 := 1#32
  let v1529 : BitVec 32 := Scalar.muli v7 c1_i32_1590
  let v1530 : BitVec 32 := Scalar.addi c0_i32_1591 v1529
  v1530.toNat
def k0_dev40 (d0 : Dev nD) : Nat :=
  let c0_i32_1633 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1632 : BitVec 32 := 1#32
  let v1568 : BitVec 32 := Scalar.muli v5 c1_i32_1632
  let v1569 : BitVec 32 := Scalar.addi c0_i32_1633 v1568
  v1569.toNat
def k0_dev41 (d0 : Dev nD) : Nat :=
  let c0_i32_1675 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1674 : BitVec 32 := 1#32
  let v1607 : BitVec 32 := Scalar.muli v7 c1_i32_1674
  let v1608 : BitVec 32 := Scalar.addi c0_i32_1675 v1607
  v1608.toNat
def k0_dev42 (d0 : Dev nD) : Nat :=
  let c0_i32_1717 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1716 : BitVec 32 := 1#32
  let v1646 : BitVec 32 := Scalar.muli v5 c1_i32_1716
  let v1647 : BitVec 32 := Scalar.addi c0_i32_1717 v1646
  v1647.toNat
def k0_dev43 (d0 : Dev nD) : Nat :=
  let c0_i32_1759 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1758 : BitVec 32 := 1#32
  let v1685 : BitVec 32 := Scalar.muli v7 c1_i32_1758
  let v1686 : BitVec 32 := Scalar.addi c0_i32_1759 v1685
  v1686.toNat
def k0_dev44 (d0 : Dev nD) : Nat :=
  let c0_i32_1801 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1800 : BitVec 32 := 1#32
  let v1724 : BitVec 32 := Scalar.muli v5 c1_i32_1800
  let v1725 : BitVec 32 := Scalar.addi c0_i32_1801 v1724
  v1725.toNat
def k0_dev45 (d0 : Dev nD) : Nat :=
  let c0_i32_1843 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1842 : BitVec 32 := 1#32
  let v1763 : BitVec 32 := Scalar.muli v7 c1_i32_1842
  let v1764 : BitVec 32 := Scalar.addi c0_i32_1843 v1763
  v1764.toNat
def k0_dev46 (d0 : Dev nD) : Nat :=
  let c0_i32_1885 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1884 : BitVec 32 := 1#32
  let v1802 : BitVec 32 := Scalar.muli v5 c1_i32_1884
  let v1803 : BitVec 32 := Scalar.addi c0_i32_1885 v1802
  v1803.toNat
def k0_dev47 (d0 : Dev nD) : Nat :=
  let c0_i32_1927 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1926 : BitVec 32 := 1#32
  let v1841 : BitVec 32 := Scalar.muli v7 c1_i32_1926
  let v1842 : BitVec 32 := Scalar.addi c0_i32_1927 v1841
  v1842.toNat
def k0_dev48 (d0 : Dev nD) : Nat :=
  let c0_i32_1969 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1968 : BitVec 32 := 1#32
  let v1880 : BitVec 32 := Scalar.muli v5 c1_i32_1968
  let v1881 : BitVec 32 := Scalar.addi c0_i32_1969 v1880
  v1881.toNat
def k0_dev49 (d0 : Dev nD) : Nat :=
  let c0_i32_2011 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2010 : BitVec 32 := 1#32
  let v1919 : BitVec 32 := Scalar.muli v7 c1_i32_2010
  let v1920 : BitVec 32 := Scalar.addi c0_i32_2011 v1919
  v1920.toNat
def k0_dev50 (d0 : Dev nD) : Nat :=
  let c0_i32_2053 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2052 : BitVec 32 := 1#32
  let v1958 : BitVec 32 := Scalar.muli v5 c1_i32_2052
  let v1959 : BitVec 32 := Scalar.addi c0_i32_2053 v1958
  v1959.toNat
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Frag.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions

@[expose] public section

noncomputable section

namespace Cert.KernelIdeal.Gen

open Idealize.ShloMosaic Idealize.ShloMosaic.TcCoe Idealize.SL.Sem

variable {F : FTy → Type} [FloatOps F]

/-! ## The buffers and their pieces -/

/-- The ring buffer of a direction: `false` runs to the right neighbour, `true` to the left one. -/
def bufM : Bool → Memref sig .tc .vmem S4x512x4096 .fp8e4m3
  | false => Memref.whole cc0_scratch0
  | true => Memref.whole cc0_scratch1

/-- A ring buffer is a whole buffer. -/
theorem bufM_whole : ∀ d, (bufM d).IsWhole
  | false => Memref.isWhole_whole _
  | true => Memref.isWhole_whole _

/-- The row block of one sub-block at one hop lies inside the ring buffer. -/
theorem inbP (h : Fin 4) (u : Fin 8) :
    ∀ a, (![h.val, 64 * u.val, 0] : Fin 3 → Nat) a + S1x64x4096.size a ≤ S4x512x4096.size a := by
  revert h u; decide

/-- The rectangle of one sub-block at one hop in the ring buffer. -/
abbrev rectP (h : Fin 4) (u : Fin 8) : Rect S4x512x4096 :=
  Rect.unit (s := S4x512x4096) ![h.val, 64 * u.val, 0] S1x64x4096.size (inbP h u)

/-- One sub-block is a whole number of packed rows. -/
theorem packedP : ∀ (h : Fin 4) (u : Fin 8), (rectP h u).PackedRows (EltTy.packing .fp8e4m3) := by
  decide

/-- One sub-block is a whole number of words. -/
theorem wordsP : ∀ (h : Fin 4) (u : Fin 8), (rectP h u).WholeWords (EltTy.packing .fp8e4m3) := by
  decide

/-- One sub-block of the ring buffer, as a matrix. -/
abbrev pieceM (d : Bool) (h : Fin 4) (u : Fin 8) : Memref sig .tc .vmem S64x4096 .fp8e4m3 :=
  ((bufM d).slice (rectP h u) (fun _ => rfl)).squeeze S64x4096 squeezes_S1x64x4096_S64x4096

/-- The rows of `x` a sub-block is cut from lie inside `x`. -/
theorem inbX (d : Bool) (u : Fin 8) :
    ∀ a, (![512 * d.toNat + 64 * u.val, 0] : Fin 2 → Nat) a + S64x4096.size a ≤ S1024x4096.size a := by
  revert d u; decide

/-- The rows of `x` a sub-block is cut from. -/
abbrev xM (d : Bool) (u : Fin 8) : Memref sig .tc .hbm S64x4096 .f32 :=
  (Memref.whole main_arg0).slice
    (Rect.unit (s := S1024x4096) ![512 * d.toNat + 64 * u.val, 0] S64x4096.size (inbX d u)) (fun _ => rfl)

/-- A staging slot lies inside the staging buffer. -/
theorem inbS (d : Bool) :
    ∀ a, (![d.toNat, 0, 0] : Fin 3 → Nat) a + S1x64x4096.size a ≤ S2x64x4096.size a := by
  revert d; decide

/-- The rectangle of a direction's staging slot. -/
abbrev rectS (d : Bool) : Rect S2x64x4096 :=
  Rect.unit (s := S2x64x4096) ![d.toNat, 0, 0] S1x64x4096.size (inbS d)

/-- A direction's staging slot, as a matrix. -/
abbrev stageM (d : Bool) : Memref sig .tc .vmem S64x4096 .f32 :=
  ((Memref.whole cc0_scratch2).slice (rectS d) (fun _ => rfl)).squeeze S64x4096 squeezes_S1x64x4096_S64x4096

/-- The number of the result slot of a sub-block. -/
abbrev slot (d : Bool) (h : Fin 4) (u : Fin 8) : Nat := 16 * h.val + 2 * u.val + d.toNat

/-- A result slot lies inside the result scratch. -/
theorem inbY (d : Bool) (h : Fin 4) (u : Fin 8) :
    ∀ a, (![slot d h u, 0, 0] : Fin 3 → Nat) a + S1x64x512.size a ≤ S64x64x512.size a := by
  revert d h u; decide

/-- The rectangle of a result slot. -/
abbrev rectY (d : Bool) (h : Fin 4) (u : Fin 8) : Rect S64x64x512 :=
  Rect.unit (s := S64x64x512) ![slot d h u, 0, 0] S1x64x512.size (inbY d h u)

/-- A result slot, as a matrix. -/
abbrev yM (d : Bool) (h : Fin 4) (u : Fin 8) : Memref sig .tc .vmem S64x512 .f32 :=
  ((Memref.whole cc0_scratch5).slice (rectY d h u) (fun _ => rfl)).squeeze S64x512 squeezes_S1x64x512_S64x512

/-- How far, in steps to the right, the device lies whose rows arrive at a hop. -/
abbrev far (d : Bool) (h : Fin 4) : Nat := if d then h.val else 4 - h.val

/-- Where in the result the product of a sub-block goes. -/
def offO (c : Dev nD) (d : Bool) (h : Fin 4) (u : Fin 8) : Fin 2 → Nat :=
  match h with
  | ⟨0, _⟩ => k0_off1 c (BitVec.ofNat 32 (512 * d.toNat)) (BitVec.ofNat 32 (64 * u.val))
  | ⟨n + 1, hn⟩ => k0_off2 c (BitVec.ofNat 32 (far d ⟨n + 1, hn⟩)) (BitVec.ofNat 32 (512 * d.toNat)) (BitVec.ofNat 32 (64 * u.val))

/-- The row of the result the product of a sub-block begins at. -/
theorem offO_eq : ∀ (c : Dev nD) (d : Bool) (h : Fin 4) (u : Fin 8),
    offO c d h u = ![1024 * ((c.val + far d h) % 4) + 512 * d.toNat + 64 * u.val, 0] := by decide +kernel

/-- The product of a sub-block lands inside the result. -/
theorem inbO (c : Dev nD) (d : Bool) (h : Fin 4) (u : Fin 8) :
    ∀ a, (offO c d h u) a + S64x512.size a ≤ S4096x512.size a := by
  revert c d h u; decide +kernel

/-- The rows of the result the product of a sub-block goes to. -/
abbrev outM (c : Dev nD) (d : Bool) (h : Fin 4) (u : Fin 8) : Memref sig .tc .hbm S64x512 .f32 :=
  (Memref.whole main_v1).slice (Rect.unit (s := S4096x512) (offO c d h u) S64x512.size (inbO c d h u)) (fun _ => rfl)

/-- A pair of hop and sub-block names a semaphore of a 4 by 8 array. -/
theorem inbSem (h : Fin 4) (u : Fin 8) :
    ∀ a, (![h.val, u.val] : Fin 2 → Nat) a + S1x1.size a ≤ S4x8.size a := by
  revert h u; decide

/-- The send semaphores of a direction. -/
def sendA : Bool → DmaSems sig S4x8
  | false => cc0_scratch6
  | true => cc0_scratch8

/-- The receive semaphores of a direction. -/
def recvA : Bool → DmaSems sig S4x8
  | false => cc0_scratch7
  | true => cc0_scratch9

/-- The send semaphore of a sub-block that leaves at a hop. -/
abbrev sendS (d : Bool) (h : Fin 4) (u : Fin 8) : DmaSem sig :=
  (((sendA d).slice (Rect.unit (s := S4x8) ![h.val, u.val] S1x1.size (inbSem h u))).squeeze S_ squeezes_S1x1_S_).sem

/-- The receive semaphore of a sub-block that arrives at a hop. -/
abbrev recvS (d : Bool) (h : Fin 4) (u : Fin 8) : DmaSem sig :=
  (((recvA d).slice (Rect.unit (s := S4x8) ![h.val, u.val] S1x1.size (inbSem h u))).squeeze S_ squeezes_S1x1_S_).sem

/-- A staging slot's number is below two. -/
theorem inbXS (d : Bool) : ∀ a, (![d.toNat] : Fin 1 → Nat) a + S1.size a ≤ S2.size a := by
  revert d; decide

/-- The semaphore of the load into a staging slot. -/
abbrev xS (d : Bool) : DmaSem sig :=
  ((cc0_scratch10.slice (Rect.unit (s := S2) ![d.toNat] S1.size (inbXS d))).squeeze S_ squeezes_S1_S_).sem

/-- A result slot's number is below sixty-four. -/
theorem inbYS (d : Bool) (h : Fin 4) (u : Fin 8) : ∀ a, (![slot d h u] : Fin 1 → Nat) a + S1.size a ≤ S64.size a := by
  revert d h u; decide

/-- The semaphore of the copy out of a result slot. -/
abbrev yS (d : Bool) (h : Fin 4) (u : Fin 8) : DmaSem sig :=
  ((cc0_scratch12.slice (Rect.unit (s := S64) ![slot d h u] S1.size (inbYS d h u))).squeeze S_ squeezes_S1_S_).sem

/-- The neighbour a direction sends to. -/
def nbr : Bool → Dev nD → Dev nD
  | false, c => ⟨k0_dev2 c, k0_dev2_lt c⟩
  | true, c => ⟨k0_dev1 c, k0_dev1_lt c⟩

/-- The barrier semaphore. -/
abbrev barS : Sem sig := (SemArray.scalar (sig.barrier 0 rfl) : Sems sig S_).sem

/-! ## The values the body computes -/

/-- A sub-block of `x`, rounded to the transport format. -/
abbrev castV (v : Vec F S1x64x4096 .f32) : FVec F S1x64x4096 .fp8e4m3 := k0_pay1 v

/-- The product of a sub-block with the weights, scaled and rectified. -/
abbrev gemmV (s : F .f32) (a : Vec F S1x64x4096 .fp8e4m3) (w : Vec F S4096x512 .fp8e5m2) : FVec F S1x64x512 .f32 :=
  k0_pay22 s a w

/-! ## The steps of the body, each before the rest of the program -/

/-- The programs of a TensorCore. -/
abbrev TProg (F : FTy → Type) := Prog (TpuEff nD τ sig (Elt F) Λ₀ .tc) PUnit

/-- Start the copy of a sub-block's rows of `x` into its staging slot. -/
abbrev startX (d : Bool) (u : Fin 8) (k : TProg F) : TProg F :=
  .op (.enqueueDma (xM d u) (.here (stageM d)) (.dma (xS d)) (View.wordExact_bits rfl)
    ((View.wordExact_bits rfl).reshape _ _) ⟨Or.inl rfl, trivial⟩) fun _ => k

/-- Start the copy after the given one, if there is one. -/
abbrev startNext (d : Bool) (u : Fin 8) (k : TProg F) : TProg F :=
  if h : u.val < 7 then startX d ⟨u.val + 1, by omega⟩ k else k

/-- Wait for a sub-block's rows of `x` and store them rounded into the ring buffer. -/
abbrev castX (d : Bool) (u : Fin 8) (k : TProg F) : TProg F :=
  .op (.waitDma2 (xS d) (xM d u) (stageM d) (View.wordExact_bits rfl) ((View.wordExact_bits rfl).reshape _ _)) fun _ =>
  .op (.load (Memref.whole cc0_scratch2) (rectS d).toLoadRect (View.loadsAt_vmem h_S1x64x4096)) fun v =>
  .op (.load (bufM d) (rectP 0 u).toLoadRect (View.loadsAt_vmem h_S1x64x4096)) fun _ =>
  .op (.store (bufM d) (rectP 0 u) (castV v) Finset.univ
    (View.stores_vmem h_S1x64x4096 ((bufM_whole d).storeExact_slice rfl _ (packedP 0 u)) (fun _ => rfl)) (.inl rfl)) fun _ => k

/-- Send a sub-block on to the neighbour. -/
abbrev sendP (c : Dev nD) (d : Bool) (h : Fin 3) (u : Fin 8) (k : TProg F) : TProg F :=
  .op (.enqueueDma (pieceM d h.castSucc u) (.remote (Dev.tc (nbr d c)) (pieceM d h.succ u) (.dma (sendS d h.castSucc u)))
    (.dma (recvS d h.succ u)) (((bufM_whole d).wordExact_slice rfl _ (wordsP h.castSucc u)).reshape _ _)
    (((bufM_whole d).wordExact_slice rfl _ (wordsP h.succ u)).reshape _ _) ⟨⟨rfl, Or.inl rfl⟩, trivial⟩) fun _ => k

/-- Wait for a sub-block to arrive. -/
abbrev waitRecv (d : Bool) (h : Fin 3) (u : Fin 8) (k : TProg F) : TProg F :=
  .op (.waitDma2 (recvS d h.succ u) (pieceM d h.castSucc u) (pieceM d h.succ u)
    (((bufM_whole d).wordExact_slice rfl _ (wordsP h.castSucc u)).reshape _ _)
    (((bufM_whole d).wordExact_slice rfl _ (wordsP h.succ u)).reshape _ _)) fun _ => k

/-- Wait for a sub-block to have left. -/
abbrev waitSend (d : Bool) (h : Fin 3) (u : Fin 8) (k : TProg F) : TProg F :=
  .op (.waitDma2 (sendS d h.castSucc u) (pieceM d h.succ u) (pieceM d h.castSucc u)
    (((bufM_whole d).wordExact_slice rfl _ (wordsP h.succ u)).reshape _ _)
    (((bufM_whole d).wordExact_slice rfl _ (wordsP h.castSucc u)).reshape _ _)) fun _ => k

/-- Multiply a sub-block by the weights and start the copy of the product to the result. -/
abbrev gemm (c : Dev nD) (s : F .f32) (d : Bool) (h : Fin 4) (u : Fin 8) (k : TProg F) : TProg F :=
  .op (.load (bufM d) (rectP h u).toLoadRect (View.loadsAt_vmem h_S1x64x4096)) fun a =>
  .op (.load (Memref.whole cc0_scratch4) (Rect.unit (s := S4096x512) ![0, 0] S4096x512.size inb_S4096x512_S4096x512_0_0).toLoadRect
    (View.loadsAt_vmem h_S4096x512)) fun w =>
  .op (.load (Memref.whole cc0_scratch5) (rectY d h u).toLoadRect (View.loadsAt_vmem h_S1x64x512)) fun _ =>
  .op (.store (Memref.whole cc0_scratch5) (rectY d h u) (gemmV s a w) Finset.univ
    (View.stores_vmem_bits_univ h_S1x64x512 rfl) (.inl rfl)) fun _ =>
  .op (.enqueueDma (yM d h u) (.here (outM c d h u)) (.dma (yS d h u)) ((View.wordExact_bits rfl).reshape _ _)
    (View.wordExact_bits rfl) ⟨Or.inl rfl, trivial⟩) fun _ => k

/-- Wait for a product's copy to the result. -/
abbrev waitOut (c : Dev nD) (d : Bool) (h : Fin 4) (u : Fin 8) (k : TProg F) : TProg F :=
  .op (.waitDma2 (yS d h u) (yM d h u) (outM c d h u) ((View.wordExact_bits rfl).reshape _ _)
    (View.wordExact_bits rfl)) fun _ => k

/-- Copy the weights and store them rounded. -/
abbrev prepW (k : TProg F) : TProg F :=
  .op (.enqueueDma (Memref.whole main_arg1) (.here (Memref.whole cc0_scratch3)) (.dma cc0_scratch11.sem)
    (Memref.isWhole_whole _).wordExact (Memref.isWhole_whole _).wordExact ⟨Or.inl rfl, trivial⟩) fun _ =>
  .op (.waitDma2 cc0_scratch11.sem (Memref.whole main_arg1) (Memref.whole cc0_scratch3)
    (Memref.isWhole_whole _).wordExact (Memref.isWhole_whole _).wordExact) fun _ =>
  .op (.load (Memref.whole cc0_scratch3) (Rect.unit (s := S4096x512) ![0, 0] S4096x512.size inb_S4096x512_S4096x512_0_0).toLoadRect
    (View.loadsAt_vmem h_S4096x512)) fun v =>
  .op (.load (Memref.whole cc0_scratch4) (Rect.unit (s := S4096x512) ![0, 0] S4096x512.size inb_S4096x512_S4096x512_0_0).toLoadRect
    (View.loadsAt_vmem h_S4096x512)) fun _ =>
  .op (.store (Memref.whole cc0_scratch4) (Rect.unit (s := S4096x512) ![0, 0] S4096x512.size inb_S4096x512_S4096x512_0_0)
    (k0_pay17 v) Finset.univ (View.stores_vmem h_S4096x512
      ((Memref.isWhole_whole cc0_scratch4).storeExact_slice rfl _ packedfp8e5m2_S4096x512_S4096x512_0_0) (fun _ => rfl)) (.inl rfl)) fun _ => k

/-- Read the two scales and go on with their product. -/
abbrev readS (k : F .f32 → TProg F) : TProg F :=
  Prog.bind (smemLoad (Memref.whole cc0_stg0_0) (Rect.unit (s := S1) ![0] S1.size inb_S1_S1_0) numel1_S1 rfl) fun a =>
  Prog.bind (smemLoad (Memref.whole cc0_stg1_0) (Rect.unit (s := S1) ![0] S1.size inb_S1_S1_0) numel1_S1 rfl) fun b =>
  k (k0_pay18 a b)

/-- Run a step for each item of a list, in order. -/
def each {ι : Type} (f : ι → TProg F → TProg F) : List ι → TProg F → TProg F
  | [], k => k
  | i :: l, k => f i (each f l k)

/-- The sub-blocks after the first, in the order the body takes them. -/
def subs1 : List (Bool × Fin 8) :=
  [(true, 0), (false, 1), (true, 1), (false, 2), (true, 2), (false, 3), (true, 3), (false, 4), (true, 4),
   (false, 5), (true, 5), (false, 6), (true, 6), (false, 7), (true, 7)]

/-- The sub-blocks in the order the body takes them. -/
def subs : List (Bool × Fin 8) := (false, 0) :: subs1

/-- The body: exchange of signals, first sends, weights, and the products hop by hop. -/
def sBody : TProg F :=
  .op .deviceId fun c : Dev nD =>
  startX false 0 <| startX true 0 <|
  .op (.semSignal (Dev.tc (nbr true c)) barS (1#32).toInt) fun _ =>
  .op (.semSignal (Dev.tc (nbr false c)) barS (1#32).toInt) fun _ =>
  castX false 0 <| startNext false 0 <|
  .op (.semWait barS (2#32).toInt) fun _ =>
  sendP c false 0 0 <|
  each (fun p k => castX p.1 p.2 <| startNext p.1 p.2 <| sendP c p.1 0 p.2 k) subs1 <|
  prepW <| readS fun s =>
  each (fun p k => gemm c s p.1 0 p.2 k) subs <|
  each (fun p k => waitRecv p.1 0 p.2 <| sendP c p.1 1 p.2 <| gemm c s p.1 1 p.2 k) subs <|
  each (fun p k => waitRecv p.1 1 p.2 <| sendP c p.1 2 p.2 <| gemm c s p.1 2 p.2 k) subs <|
  each (fun p k => waitRecv p.1 2 p.2 <| gemm c s p.1 3 p.2 k) subs <|
  each (fun p k => waitSend p.1 0 p.2 k) subs <|
  each (fun p k => waitSend p.1 1 p.2 k) subs <|
  each (fun p k => waitSend p.1 2 p.2 k) subs <|
  each (fun p k => waitOut c p.1 0 p.2 k) subs <|
  each (fun p k => waitOut c p.1 1 p.2 k) subs <|
  each (fun p k => waitOut c p.1 2 p.2 k) subs <|
  each (fun p k => waitOut c p.1 3 p.2 k) subs <|
  .ret ⟨⟩

end Cert.KernelIdeal.Gen
-- ==== Proof.Sched.lean ====
module

public import proofs.«01_k».proof.Proof.Frag
public import Idealize.ShloMosaic.Lib.Pipeline.Launch
public import Idealize.ShloMosaic.Lib.Pipeline.Kit
public import Idealize.ShloMosaic.Lib.Pipeline.BigSepL
public import Idealize.ShloMosaic.Lib.MemrefSat
public import Idealize.ShloMosaic.Lib.SparseCore.FromWhole
public import Idealize.ShloMosaic.Lib.Tactic

@[expose] public section

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds of the cells that two devices share. -/
abbrev UB : Type := URounds (GSem nD τ sig) Bool
/-- The user algebra: the pipeline's rounds, the shared cells' rounds, and the counters of local copies. -/
abbrev UU : Type := UR sig nD τ × (UB × Counters)

local notation "𝕄" => MT nD τ sig Unit (Elt F) ℕ UU ℕ

/-- Where the pipeline's rounds sit. -/
abbrev EP : Emb (UR sig nD τ) (MT nD τ sig Unit (Elt F) ℕ UU ℕ) := embL
/-- Where the shared cells' rounds sit. -/
abbrev ER : Emb UB (MT nD τ sig Unit (Elt F) ℕ UU ℕ) :=
  (Emb.inl : Emb UB (UB × Counters)).trans embR
/-- Where the counters of the local copies sit. -/
abbrev EC : UEmb Counters (MT nD τ sig Unit (Elt F) ℕ UU ℕ) := countersEmb

/-- The initial memory. -/
abbrev Mem0 (F : FTy → Type) : Type := (ℓ : Loc nD τ sig) → Buf (Elt F) ℓ

/-! ## The ring -/

/-- The neighbour to the right is the next device. -/
theorem nbr_right (c : Dev nD) : (nbr false c).val = (c.val + 1) % 4 := k0_dev2_eq c
/-- The neighbour to the left is the device before. -/
theorem nbr_left (c : Dev nD) : (nbr true c).val = (c.val + 3) % 4 := k0_dev1_eq c

/-- One step in a direction and one back. -/
theorem nbr_back (d : Bool) (c : Dev nD) : nbr (!d) (nbr d c) = c := by
  apply Fin.ext
  have hc : c.val < 4 := c.isLt
  cases d
  · show (nbr true (nbr false c)).val = _; rw [nbr_left, nbr_right]; omega
  · show (nbr false (nbr true c)).val = _; rw [nbr_right, nbr_left]; omega

/-- One step back and one in the direction. -/
theorem nbr_forth (d : Bool) (c : Dev nD) : nbr d (nbr (!d) c) = c := by
  have h := nbr_back (!d) c; rwa [Bool.not_not] at h

/-- One step round the ring. -/
def ring (d : Bool) : Dev nD ≃ Dev nD := ⟨nbr d, nbr (!d), nbr_back d, nbr_forth d⟩

/-- The device whose rows a device holds at a hop. -/
def src (d : Bool) (c : Dev nD) (h : Fin 4) : Dev nD := (nbr (!d))^[h.val] c

/-- What a device holds at a hop its neighbour holds at the next. -/
theorem src_succ (d : Bool) (c : Dev nD) (h : Fin 3) : src d (nbr d c) h.succ = src d c h.castSucc := by
  unfold src
  rw [Fin.val_succ, Function.iterate_succ_apply, nbr_back]; rfl

/-! ## The values -/

section Values

variable {α : Type} {s s' : Shape}

/-- A value on a shape with a unit axis, as a value without it. -/
def sq (h : s.Squeezes s') (w : s.Idx → α) : s'.Idx → α := fun j => w (Shape.reshapeEquiv h.numel_eq j)
/-- A value as a value with a unit axis. -/
def unsq (h : s.Squeezes s') (w : s'.Idx → α) : s.Idx → α := fun j => w ((Shape.reshapeEquiv h.numel_eq).symm j)

end Values

variable (m : Mem0 F)

/-- The rows of `x` a sub-block is cut from, on a device. -/
def xv (c : Dev nD) (d : Bool) (u : Fin 8) : S64x4096.Idx → Elt F .f32 :=
  (xM d u).view.read (Elt F) (m ((c : Thread nD τ).loc main_arg0))

/-- The same rows rounded to the transport format. -/
def xc (c : Dev nD) (d : Bool) (u : Fin 8) : S64x4096.Idx → Elt F .fp8e4m3 :=
  sq squeezes_S1x64x4096_S64x4096 (castV (unsq squeezes_S1x64x4096_S64x4096 (xv m c d u)))

/-- What a ring-buffer piece of a device holds. -/
def pv (c : Dev nD) (d : Bool) (h : Fin 4) (u : Fin 8) : S64x4096.Idx → Elt F .fp8e4m3 := xc m (src d c h) d u

/-- The weights of a device, rounded. -/
def wv (c : Dev nD) : (cc0_scratch4 : Ref sig .tc).ty.Contents (Elt F) :=
  k0_pay17 (m ((c : Thread nD τ).loc main_arg1))

/-- The one index of a one-element array. -/
def one0 : S1.Idx := Shape.Idx.first (by decide)

/-- The product of the scales, from the two staged words. -/
def sv (a b : S1.Idx → Elt F .f32) : F .f32 := k0_pay18 (a one0) (b one0)

/-- The rows of the result a piece makes. -/
def yv (s : F .f32) (c : Dev nD) (d : Bool) (h : Fin 4) (u : Fin 8) : S64x512.Idx → Elt F .f32 :=
  sq squeezes_S1x64x512_S64x512 (gemmV s (unsq squeezes_S1x64x4096_S64x4096 (pv m c d h u)) (wv m c))

/-! ## The cells -/

/-- A transfer between devices: the hop it leaves at, its direction and its sub-block. -/
abbrev I3 : Type := Fin 3 × (Bool × Fin 8)
/-- A piece: its hop, its direction and its sub-block. -/
abbrev I4 : Type := Fin 4 × (Bool × Fin 8)

/-- The semaphore a transfer's departure counts on. -/
abbrev sSem (i : I3) : DmaSem sig := sendS i.2.1 i.1.castSucc i.2.2
/-- The semaphore a transfer's arrival counts on. -/
abbrev vSem (i : I3) : DmaSem sig := recvS i.2.1 i.1.succ i.2.2
/-- The departure cell of a transfer on a device. -/
abbrev sCell (c : Dev nD) (i : I3) : GSem nD τ sig := ((c : Thread nD τ), .dma (sSem i))
/-- The arrival cell of a transfer on a device. -/
abbrev vCell (c : Dev nD) (i : I3) : GSem nD τ sig := ((c : Thread nD τ), .dma (vSem i))
/-- The barrier cell of a device. -/
abbrev bCell (c : Dev nD) : GSem nD τ sig := ((c : Thread nD τ), .reg barS)

/-- Which transfer a semaphore belongs to, and whether it counts arrivals. -/
def dec (q : DmaSem sig) : Option (Bool × I3) :=
  let k := q.val - 2
  let h := k % 32 / 8
  let d := decide (k / 32 / 2 = 1)
  let u : Fin 8 := ⟨k % 8, Nat.mod_lt _ (by decide)⟩
  if 2 ≤ q.val ∧ q.val < 130 then
    if k / 32 % 2 = 1 then (if hh : h - 1 < 3 then (if 1 ≤ h then some (true, (⟨h - 1, hh⟩, (d, u))) else none) else none)
    else (if hh : h < 3 then some (false, (⟨h, hh⟩, (d, u))) else none)
  else none

/-- The number of a departure semaphore. -/
theorem sSem_val : ∀ i : I3, (sSem i).val = 2 + 64 * i.2.1.toNat + 8 * i.1.val + i.2.2.val := by decide +kernel
/-- The number of an arrival semaphore. -/
theorem vSem_val : ∀ i : I3, (vSem i).val = 34 + 64 * i.2.1.toNat + 8 * (i.1.val + 1) + i.2.2.val := by decide +kernel

/-- Departure semaphores are recognised. -/
theorem dec_s : ∀ i : I3, dec (sSem i) = some (false, i) := by decide +kernel
/-- Arrival semaphores are recognised. -/
theorem dec_v : ∀ i : I3, dec (vSem i) = some (true, i) := by decide +kernel

/-- What one transfer between devices counts. -/
abbrev N : ℕ := (pieceM false 0 0).view.dmaCredit
/-- A transfer counts something. -/
theorem N_pos : 0 < N := View.dmaCredit_pos _ (by decide)
/-- Every piece counts the same. -/
theorem N_eq (d : Bool) (h : Fin 4) (u : Fin 8) : (pieceM d h u).view.dmaCredit = N := by
  cases d <;> rfl

/-! ## The schedule -/

/-- A memref at contents of its own. -/
def some' (c : Dev nD) {sp : Space} {sh : Shape} {e : EltTy} (M : Memref sig .tc sp sh e) : sProp 𝕄 :=
  iprop(∃ X, owns (c : Thread nD τ) M fullShare X)

/-- A buffer piece at some contents can be put in a cell. -/
instance some'_storable (c : Dev nD) {sp : Space} {sh : Shape} {e : EltTy} (M : Memref sig .tc sp sh e) :
    BI.Storable (upEmb : UEmb _ 𝕄) (some' (F := F) c M) := by unfold some'; infer_instance

/-- The signal a device gets from a neighbour carries the neighbour's pieces it will send to. -/
def barPay (c : Dev nD) (d : Bool) : sProp 𝕄 :=
  bigSep Finset.univ fun p : Fin 3 × Fin 8 => some' (F := F) (nbr d c) (pieceM d p.1.succ p.2)

/-- A departure gives half of the piece back. -/
def sendPay (c : Dev nD) (i : I3) : sProp 𝕄 :=
  owns (c : Thread nD τ) (pieceM i.2.1 i.1.castSucc i.2.2) fullShare.left (pv m c i.2.1 i.1.castSucc i.2.2)

/-- An arrival gives the piece at the next hop. -/
def recvPay (c : Dev nD) (i : I3) : sProp 𝕄 :=
  owns (c : Thread nD τ) (pieceM i.2.1 i.1.succ i.2.2) fullShare (pv m c i.2.1 i.1.succ i.2.2)

/-- What a duty on a cell hands over. -/
def pay (g : GSem nD τ sig) (d : Bool) : sProp 𝕄 :=
  match g.2 with
  | .reg _ => barPay g.1.1 d
  | .dma q => match dec q with
    | some (false, i) => sendPay m g.1.1 i
    | some (true, i) => recvPay m g.1.1 i
    | none => iprop(emp)

/-- The duties of a cell. -/
def duts (g : GSem nD τ sig) : Finset Bool :=
  match g.2 with
  | .reg _ => Finset.univ
  | .dma q => if (dec q).isSome then {false} else ∅

/-- What a duty counts. -/
def amt (g : GSem nD τ sig) : ℕ :=
  match g.2 with
  | .reg _ => 1
  | .dma _ => N

/-- The schedule of the shared cells: one round each. -/
def Rd : Rounds.Schedule (GSem nD τ sig) Bool 𝕄 where
  duties g r := if r = 0 then duts g else ∅
  unitless _ := False
  amount g _ _ := amt g
  payload g _ d := pay m g d
  amount_pos g _ _ _ := by
    unfold amt
    split
    · exact Nat.one_pos
    · exact N_pos

/-- What is paid into a cell can be kept there. -/
instance Rd_storable (g : GSem nD τ sig) (r : ℕ) (d : Bool) :
    BI.Storable (upEmb : UEmb _ 𝕄) ((Rd (F := F) m).payload g r d) := by
  show BI.Storable upEmb (pay m g d)
  unfold pay barPay sendPay recvPay
  split
  · infer_instance
  · split <;> infer_instance

section Sched
variable (c : Dev nD)

/-- A barrier has a signal from either neighbour. -/
theorem duties_b : (Rd (F := F) m).duties (bCell c) 0 = Finset.univ := rfl
/-- A departure has one payment. -/
theorem duties_s (i : I3) : (Rd (F := F) m).duties (sCell c i) 0 = {false} := by
  show (if (dec (sSem i)).isSome then _ else _) = _; rw [dec_s]; rfl
/-- An arrival has one payment. -/
theorem duties_v (i : I3) : (Rd (F := F) m).duties (vCell c i) 0 = {false} := by
  show (if (dec (vSem i)).isSome then _ else _) = _; rw [dec_v]; rfl
/-- No cell has a second round. -/
theorem duties_later (g : GSem nD τ sig) : ∀ r, 1 ≤ r → (Rd (F := F) m).duties g r = ∅ :=
  fun r hr => if_neg (by omega)

/-- A barrier expects two. -/
theorem expect_b : (Rd (F := F) m).expect (bCell c) 0 = 2 := rfl
/-- A departure expects one piece. -/
theorem expect_s (i : I3) : (Rd (F := F) m).expect (sCell c i) 0 = N := by
  unfold Schedule.expect Schedule.amountOf; rw [duties_s, Finset.sum_singleton]; rfl
/-- An arrival expects one piece. -/
theorem expect_v (i : I3) : (Rd (F := F) m).expect (vCell c i) 0 = N := by
  unfold Schedule.expect Schedule.amountOf; rw [duties_v, Finset.sum_singleton]; rfl

/-- A departure hands its piece back. -/
theorem payload_s (i : I3) (d : Bool) : (Rd (F := F) m).payload (sCell c i) 0 d = sendPay m c i := by
  show (match dec (sSem i) with | some (false, i) => sendPay m c i | some (true, i) => recvPay m c i | none => iprop(emp)) = _
  rw [dec_s]
/-- An arrival hands its piece over. -/
theorem payload_v (i : I3) (d : Bool) : (Rd (F := F) m).payload (vCell c i) 0 d = recvPay m c i := by
  show (match dec (vSem i) with | some (false, i) => sendPay m c i | some (true, i) => recvPay m c i | none => iprop(emp)) = _
  rw [dec_v]
/-- A signal hands over the pieces to be sent to. -/
theorem payload_b (d : Bool) : (Rd (F := F) m).payload (bCell c) 0 d = barPay c d := rfl

/-- What a barrier hands over in all. -/
theorem rest_b : bigSep ((Rd (F := F) m).duties (bCell c) 0 \ ∅) (fun d => (Rd (F := F) m).payload (bCell c) 0 d)
    = iprop(barPay c false ∗ barPay c true) := by
  rw [Finset.sdiff_empty, duties_b, bigSep_univ_eq_bigSepL [false, true] (by decide) (by decide), bigSepL_cons_cons, bigSepL_singleton]
  rfl
/-- What a departure hands over in all. -/
theorem rest_s (i : I3) : bigSep ((Rd (F := F) m).duties (sCell c i) 0 \ ∅) (fun d => (Rd (F := F) m).payload (sCell c i) 0 d)
    = sendPay m c i := by rw [Finset.sdiff_empty, duties_s, bigSep_singleton, payload_s]
/-- What an arrival hands over in all. -/
theorem rest_v (i : I3) : bigSep ((Rd (F := F) m).duties (vCell c i) 0 \ ∅) (fun d => (Rd (F := F) m).payload (vCell c i) 0 d)
    = recvPay m c i := by rw [Finset.sdiff_empty, duties_v, bigSep_singleton, payload_v]

end Sched

/-! ## What a device owes, and the levels -/

/-- What a device owes for the transfers of a hop to come. -/
def tl (c : Dev nD) (h : Fin 3) : List (Bool × Fin 8) → CellTallies nD τ sig Unit
  | [] => 0
  | p :: l => tl c h l + tallyAt (vCell (nbr p.1 c) (h, p)) () N

/-- What a device owes from the first transfer on. -/
def O₂ (c : Dev nD) : CellTallies nD τ sig Unit := tl c 2 subs + tl c 1 subs + tl c 0 subs
/-- What a device owes once the left neighbour is signalled. -/
def O₁ (c : Dev nD) : CellTallies nD τ sig Unit := O₂ c + tallyAt (bCell (nbr false c)) () 1
/-- What a device owes at launch. -/
def O₀ (c : Dev nD) : CellTallies nD τ sig Unit := O₁ c + tallyAt (bCell (nbr true c)) () 1

/-- The indices a cell is waited at. -/
def L (g : GSem nD τ sig) : Finset Unit := if g.1.2 = .tc then {()} else ∅
/-- The level of a cell: local ones below the barrier, arrivals above it by hop. -/
def lv (g : GSem nD τ sig) (_ : Unit) : ℕ :=
  match g.2 with
  | .reg _ => 1
  | .dma q => match dec q with
    | some (true, i) => i.1.val + 2
    | _ => 0

/-- Only TensorCores wait. -/
theorem L_of_ne (g : GSem nD τ sig) (h : g.1.2 ≠ .tc) : L g = ∅ := if_neg h
/-- Every cell of a TensorCore has one kind of wait. -/
theorem L_tc (c : Dev nD) (sm : SemLoc sig) : L ((c : Thread nD τ), sm) = {()} := if_pos rfl
/-- The level of a barrier. -/
theorem lv_b (c : Dev nD) (u : Unit) : lv (bCell c) u = 1 := rfl
/-- The level of a departure. -/
theorem lv_s (c : Dev nD) (i : I3) (u : Unit) : lv (sCell c i) u = 0 := by
  show (match dec (sSem i) with | some (true, i) => i.1.val + 2 | _ => 0) = _; rw [dec_s]
/-- The level of an arrival. -/
theorem lv_v (c : Dev nD) (i : I3) (u : Unit) : lv (vCell c i) u = i.1.val + 2 := by
  show (match dec (vSem i) with | some (true, i) => i.1.val + 2 | _ => 0) = _; rw [dec_v]

/-- Everything owed lies on TensorCore cells above a level. -/
def Above (n : ℕ) (O : CellTallies nD τ sig Unit) : Prop := ∀ g u, 0 < O g u → n < lv g u ∧ g.1.2 = .tc

/-- Owing nothing is above every level. -/
theorem Above.zero (n : ℕ) : Above n 0 := fun g u h => absurd h (Nat.lt_irrefl 0)
/-- Two debts above a level are above it together. -/
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
/-- A debt to one cell above a level is above it. -/
theorem Above.tally {n : ℕ} {c : Dev nD} {sm : SemLoc sig} {k : ℕ} (h : n < lv ((c : Thread nD τ), sm) ()) :
    Above n (tallyAt ((c : Thread nD τ), sm) () k) := fun g u hg => by
  rw [tallyAt_apply] at hg
  by_cases hh : g = ((c : Thread nD τ), sm) ∧ u = ()
  · rw [hh.1, hh.2]; exact ⟨h, rfl⟩
  · rw [if_neg hh] at hg; exact absurd hg (Nat.lt_irrefl 0)
/-- The sends of a hop are above a level below it. -/
theorem Above.tl (n : ℕ) (c : Dev nD) (h : Fin 3) (hn : n < h.val + 2) : ∀ l, Above n (tl c h l)
  | [] => Above.zero n
  | p :: l => (Above.tl n c h hn l).add (Above.tally (by rw [lv_v]; exact hn))

/-- A device may wait on a cell below everything it owes. -/
theorem mayWait (n : ℕ) (c : Dev nD) (sm : SemLoc sig) (O : CellTallies nD τ sig Unit) (hl : lv ((c : Thread nD τ), sm) () ≤ n) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).2]; exact Finset.mem_singleton_self _)
    (fun p hp => by rw [Finset.mem_singleton.mp hp]; exact hl)
    (fun g u hg => (hO g u hg).1)

end Cert.Run
-- ==== Proof.Steps.lean ====
module

public import proofs.«01_k».proof.Proof.Sched

@[expose] public section

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-- No loop of the body needs a variant. -/
abbrev 𝒱₀ : Variants := Variants.none

/-- A device runs a program of its TensorCore to a postcondition. -/
abbrev Runs (c : Dev nD) (p : TProg F) (Q : PUnit → sProp 𝕄) : sProp 𝕄 :=
  wp frame (wpE (defs₀ (F := F)) 𝒱₀ (c : Thread nD τ) none) Set.univ p Q

/-- A device owes `O`, whatever it has waited for. -/
def ow (c : Dev nD) (O : CellTallies nD τ sig Unit) : sProp 𝕄 := iprop(∃ W, owes (c : Thread nD τ) O W)

section

variable (c : Dev nD) {Q : PUnit → sProp (MT nD τ sig Unit (Elt F) ℕ UU ℕ)}

/-- A step run for each item of a list: from the step's own rule, by induction. -/
theorem wp_each {ι : Type} (full : List ι) (f : ι → TProg F → TProg F) (R : List ι → sProp 𝕄) (A B : ι → sProp 𝕄)
    (step : ∀ i l k, (i :: l) <:+ full → iprop(R (i :: l) ∗ A i ∗ (iprop(R l ∗ B i) -∗ Runs c k Q)) ⊢ Runs c (f i k) Q) :
    ∀ l k, l <:+ full → iprop(R l ∗ bigSepL l A ∗ (iprop(R [] ∗ bigSepL l B) -∗ Runs c k Q)) ⊢ Runs c (each f l k) Q
  | [], k, _ => by
    iintro ⟨HR, -, Hk⟩
    iapply Hk
    iframe HR
    rw [bigSepL_nil]; iempintro
  | i :: l, k, h => by
    rw [bigSepL_cons' i l A, bigSepL_cons' i l B]
    iintro ⟨HR, ⟨HA, HL⟩, Hk⟩
    iapply (step i l (each f l k) h)
    iframe HR HA
    iintro ⟨HR, HB⟩
    iapply (wp_each full f R A B step l k ((List.suffix_cons i l).trans h))
    iframe HR HL
    iintro ⟨HR, HL⟩
    iapply Hk
    iframe HR HB HL

variable {sp sp' : Space} {s s' : Shape} {e : EltTy}

/-- A memref's elements at contents that read as a value. -/
theorem owns_of_read (M : Memref sig .tc sp s e) {q : PosShare TreeShare} (f : Buf (Elt F) (M.view.loc (c : Thread nD τ))) {X : s.Idx → Elt F e}
    (hX : M.view.read (Elt F) f = X) :
    (iprop(M.view.loc (c : Thread nD τ) ↦[M.view.set]{q} f) : sProp 𝕄) ⊢ owns (c : Thread nD τ) M q X := by
  unfold owns
  iintro H
  iexists f
  isplitr
  · ipureintro; exact hX
  · iexact H

/-- A memref's elements after a copy wrote them. -/
theorem owns_landed (M : Memref sig .tc sp s e) (f : Buf (Elt F) (M.view.loc (c : Thread nD τ))) {Y : s.Idx → Elt F e} (X : s.Idx → Elt F e) (hY : Y = X) :
    (iprop(M.view.loc (c : Thread nD τ) ↦[M.view.set]{fullShare} (M.view.write (Elt F) f Y Finset.univ)) : sProp 𝕄) ⊢ owns (c : Thread nD τ) M fullShare X :=
  owns_of_read c M _ ((View.read_write_univ _ _).trans hY)

/-- A copy within a device, its source's buffer held whole. -/
theorem wp_copyWhole {src : Memref sig .tc sp s e} {dst : Memref sig .tc sp' s e} {sm : DmaSem sig}
    {hsrc : src.view.WordExact} {hdst : dst.view.WordExact} {hsem : DmaTarget.Typed (nD := nD) (τ := τ) (p := .tc) sp (.dma sm) (.here dst)}
    {k : TProg F} {q : PosShare TreeShare} (fs : Buf (Elt F) (src.view.loc (c : Thread nD τ))) (h0 : 0 < s.numel) :
    iprop((src.view.loc (c : Thread nD τ) ↦{q} fs) ∗ some' c dst ∗ semVal ((c : Thread nD τ), .dma sm) 0)
      ⊢ iprop((Flight EC (c : Thread nD τ) (.dma sm) () dst.view.dmaCredit
            iprop(owns (c : Thread nD τ) dst fullShare (src.view.read (Elt F) fs) ∗ (src.view.loc (c : Thread nD τ) ↦{q} fs)) -∗ Runs c k Q)
          -∗ Runs c (.op (.enqueueDma src (.here dst) (.dma sm) hsrc hdst hsem) fun _ => k) Q) := by
  unfold some'
  rw [show (fun X => (owns (c : Thread nD τ) dst fullShare X : sProp 𝕄)) = fun X => iprop(∃ f, ⌜dst.view.read (Elt F) f = X⌝ ∗ (dst.view.loc (c : Thread nD τ) ↦[dst.view.set]{fullShare} f)) from rfl]
  iintro ⟨Hs, ⟨%X, %fd, -, Hd⟩, Hv⟩ Hk
  iapply (wp_dmaFromWhole EC 𝒱₀ (c : Thread nD τ) none (fs := fs) (fd := fd) (Sd := dst.view.set) () dst.view.dmaCredit rfl
    (View.dmaCredit_pos _ h0) (Finset.Subset.refl _)) $$ [Hs Hd Hv]
  · iframe Hs Hd Hv
  iintro Hf
  iapply Hk
  iapply (Flight_mono EC (c : Thread nD τ) (BIClass.sep_mono (owns_landed c dst fd _ rfl) Entails.rfl)) $$ Hf

/-- A copy within a device. -/
theorem wp_copyPiece {src : Memref sig .tc sp s e} {dst : Memref sig .tc sp' s e} {sm : DmaSem sig}
    {hsrc : src.view.WordExact} {hdst : dst.view.WordExact} {hsem : DmaTarget.Typed (nD := nD) (τ := τ) (p := .tc) sp (.dma sm) (.here dst)}
    {k : TProg F} {q : PosShare TreeShare} (X : s.Idx → Elt F e) (h0 : 0 < s.numel) :
    iprop(owns (c : Thread nD τ) src q X ∗ some' c dst ∗ semVal ((c : Thread nD τ), .dma sm) 0)
      ⊢ iprop((Flight EC (c : Thread nD τ) (.dma sm) () dst.view.dmaCredit
            iprop(owns (c : Thread nD τ) dst fullShare X ∗ owns (c : Thread nD τ) src q X) -∗ Runs c k Q)
          -∗ Runs c (.op (.enqueueDma src (.here dst) (.dma sm) hsrc hdst hsem) fun _ => k) Q) := by
  unfold some'
  rw [show (owns (c : Thread nD τ) src q X : sProp 𝕄) = iprop(∃ f, ⌜src.view.read (Elt F) f = X⌝ ∗ (src.view.loc (c : Thread nD τ) ↦[src.view.set]{q} f)) from rfl,
    show (fun X => (owns (c : Thread nD τ) dst fullShare X : sProp 𝕄)) = fun X => iprop(∃ f, ⌜dst.view.read (Elt F) f = X⌝ ∗ (dst.view.loc (c : Thread nD τ) ↦[dst.view.set]{fullShare} f)) from rfl]
  iintro ⟨⟨%fs, %hX, Hs⟩, ⟨%Y, %fd, -, Hd⟩, Hv⟩ Hk
  iapply (wp_dmaLocal EC 𝒱₀ (c : Thread nD τ) none (fs := fs) (fd := fd) (Sd := dst.view.set) () dst.view.dmaCredit rfl
    (View.dmaCredit_pos _ h0) (Finset.Subset.refl _)) $$ [Hs Hd Hv]
  · iframe Hs Hd Hv
  iintro Hf
  iapply Hk
  iapply (Flight_mono EC (c : Thread nD τ) (BIClass.sep_mono (owns_landed c dst fd X hX) (owns_of_read c src fs hX))) $$ Hf

/-- The wait for a copy within a device. -/
theorem wp_waitCopy {src : Memref sig .tc sp s e} {dst : Memref sig .tc sp' s e} {sm : DmaSem sig}
    {hsrc : src.view.WordExact} {hdst : dst.view.WordExact} {k : TProg F} {D : sProp 𝕄} (n : ℕ) {O : CellTallies nD τ sig Unit}
    (hl : lv ((c : Thread nD τ), .dma sm) () ≤ n) (hO : Above n O) :
    iprop(Flight EC (c : Thread nD τ) (.dma sm) () dst.view.dmaCredit D ∗ ow c O ∗ levAts L lv)
      ⊢ iprop((iprop(D ∗ semVal ((c : Thread nD τ), .dma sm) 0 ∗ ow c O) -∗ Runs c k Q)
          -∗ Runs c (.op (.waitDma2 sm src dst hsrc hdst) fun _ => k) Q) := by
  unfold ow
  iintro ⟨Hf, ⟨%W, HO⟩, Hl⟩ Hk
  iapply (wp_waitLocalO EC 𝒱₀ (c : Thread nD τ) none () rfl (W := W) (O := O)) $$ [Hf HO Hl]
  · iframe Hf HO
    iapply (mayWait n c _ O hl hO) $$ Hl
  iintro ⟨HD, Hv, HO⟩
  iapply Hk
  iframe HD Hv
  iexists _; iexact HO

/-- A load of a slot. -/
theorem wp_loadSlot {cs : CoreSpace} {M : Memref sig .tc cs s e} {r : Rect s} {h1 : ∀ a, r.stride a = 1} (hq : r.shape.Squeezes s')
    {hl : M.view.LoadsAt r.toLoadRect} {k : (r.shape.Idx → Elt F e) → TProg F} {q : PosShare TreeShare} (X : s'.Idx → Elt F e) :
    (owns (c : Thread nD τ) ((M.slice r h1).squeeze s' hq) q X : sProp 𝕄)
      ⊢ iprop((owns (c : Thread nD τ) ((M.slice r h1).squeeze s' hq) q X -∗ Runs c (k (unsq hq X)) Q)
          -∗ Runs c (.op (.load M r.toLoadRect hl) k) Q) := by
  unfold owns
  iintro ⟨%f, %hf, H⟩ Hk
  iapply (wp_load 𝒱₀ (c : Thread nD τ) none Set.univ (m := M) (r := r.toLoadRect) (f := f) (S := ((M.slice r h1).squeeze s' hq).view.set) (by
    rw [Memref.set_view_squeeze]; exact (View.set_slice M.view r).ge)) $$ H
  iintro H
  have hv : M.view.readAt (Elt F) r.toLoadRect f = unsq hq X := by
    rw [← hf]
    funext j
    show (M.view.slice r).read (Elt F) f j = (M.view.slice r).read (Elt F) f (Shape.reshapeEquiv hq.numel_eq ((Shape.reshapeEquiv hq.numel_eq).symm j))
    rw [Equiv.apply_symm_apply]
  rw [hv]
  iapply Hk
  iexists f
  isplitr
  · ipureintro; exact hf
  · iexact H

/-- A store to a slot. -/
theorem wp_storeSlot {cs : CoreSpace} {M : Memref sig .tc cs s e} {r : Rect s} {h1 : ∀ a, r.stride a = 1} (hq : r.shape.Squeezes s')
    {w : r.shape.Idx → Elt F e} {hx : (M.access r).Stores Finset.univ} {hm : (Finset.univ : Finset r.shape.Idx) = Finset.univ ∨ ∀ a, r.stride a = 1} {k : TProg F} :
    (some' c ((M.slice r h1).squeeze s' hq) : sProp 𝕄)
      ⊢ iprop((owns (c : Thread nD τ) ((M.slice r h1).squeeze s' hq) fullShare (sq hq w) -∗ Runs c k Q)
          -∗ Runs c (.op (.store M r w Finset.univ hx hm) fun _ => k) Q) := by
  unfold some' owns
  iintro ⟨%X, %f, -, H⟩ Hk
  iapply (wp_store 𝒱₀ (c : Thread nD τ) none Set.univ (m := M) (r := r) (Mk := Finset.univ) (f := f) (S := ((M.slice r h1).squeeze s' hq).view.set) (by
    rw [Memref.set_view_squeeze]; exact Finset.Subset.refl _)) $$ H
  iintro H
  iapply Hk
  iexists _
  isplitr
  · ipureintro
    show (fun j => (M.view.slice r).read (Elt F) ((M.view.slice r).write (Elt F) f w Finset.univ) (Shape.reshapeEquiv hq.numel_eq j)) = sq hq w
    rw [View.read_write_univ]; rfl
  · iexact H

end

end Cert.Run
-- ==== Proof.Moves.lean ====
module

public import proofs.«01_k».proof.Proof.Steps

@[expose] public section

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-- The shared cells of a device: the barrier, the departures and the arrivals. -/
abbrev CI : Type := Unit ⊕ (I3 ⊕ I3)

/-- A shared cell of a device. -/
def kcell (p : Dev nD × CI) : GSem nD τ sig :=
  match p.2 with
  | .inl _ => bCell p.1
  | .inr (.inl i) => sCell p.1 i
  | .inr (.inr i) => vCell p.1 i

variable (m : Mem0 F)

/-- Equality of shared cells is decidable. -/
instance : DecidableEq (Dev nD × CI) := instDecidableEqProd

/-- What every device knows of the shared cells: their invariants, and that their round has begun. -/
def records (K : Dev nD × CI → ℕ) : sProp 𝕄 :=
  iprop((bigSep Finset.univ fun p : Dev nD × CI => cellInv ER (Rd m) (K p) (kcell p))
    ∗ bigSep Finset.univ fun p : Dev nD × CI => reached ER (kcell p) 0)

/-- The records of the shared cells may be kept and copied. -/
instance records_persistent (K : Dev nD × CI → ℕ) : BI.Persistent (records m K) := by unfold records; infer_instance

/-- The record of one cell. -/
theorem record_at (K : Dev nD × CI → ℕ) (p : Dev nD × CI) :
    records m K ⊢ iprop(cellInv ER (Rd m) (K p) (kcell p) ∗ reached ER (kcell p) 0) := by
  unfold records
  exact BIClass.sep_mono (bigSep_elim (Finset.mem_univ p)) (bigSep_elim (Finset.mem_univ p))

/-- The semaphores of the loads into the staging slots are on level zero. -/
theorem dec_x : ∀ d : Bool, dec (xS d) = none := by decide +kernel
/-- So is that of the load of the weights. -/
theorem dec_w : dec cc0_scratch11.sem = none := by decide +kernel
/-- So are those of the copies of the products. -/
theorem dec_y : ∀ (d : Bool) (h : Fin 4) (u : Fin 8), dec (yS d h u) = none := by decide +kernel

/-- A semaphore that no two devices share is on level zero. -/
theorem lv_none (c : Dev nD) {q : DmaSem sig} (h : dec q = none) : lv ((c : Thread nD τ), .dma q) () ≤ 0 := by
  show (match dec q with | some (true, i) => i.1.val + 2 | _ => 0) ≤ 0
  rw [h]

section

variable (K : Dev nD × CI → ℕ) (c : Dev nD) {Q : PUnit → sProp (MT nD τ sig Unit (Elt F) ℕ UU ℕ)} {k : TProg F}

/-- A sub-block is sent on: half of it travels, the other half stays. -/
theorem wp_sendP (d : Bool) (h : Fin 3) (u : Fin 8) (O : CellTallies nD τ sig Unit) :
    iprop(records m K ∗ owns (c : Thread nD τ) (pieceM d h.castSucc u) fullShare (pv m c d h.castSucc u)
        ∗ some' (nbr d c) (pieceM d h.succ u) ∗ ow c (O + tallyAt (vCell (nbr d c) (h, (d, u))) () N)
        ∗ dutyTok ER (sCell c (h, (d, u))) 0 false ∗ dutyTok ER (vCell (nbr d c) (h, (d, u))) 0 false)
      ⊢ iprop((iprop(cred (tallyAt (sCell c (h, (d, u))) () N)
            ∗ owns (c : Thread nD τ) (pieceM d h.castSucc u) fullShare.right (pv m c d h.castSucc u) ∗ ow c O) -∗ Runs c k Q)
          -∗ Runs c (sendP c d h u k) Q) := by
  unfold some' ow
  iintro ⟨#HR, Hp, ⟨%X, Hd⟩, ⟨%W, HO⟩, Hts, Htv⟩ Hk
  ihave Hh := (owns_halves (c : Thread nD τ) (pieceM d h.castSucc u) fullShare (pv m c d h.castSucc u)).1 $$ Hp
  icases Hh with ⟨HL, Hr⟩
  ihave Hs := (record_at m K (c, .inr (.inl (h, (d, u))))) $$ HR
  ihave Hv := (record_at m K (nbr d c, .inr (.inr (h, (d, u))))) $$ HR
  icases Hs with ⟨HIs, HRs⟩
  icases Hv with ⟨HIv, HRv⟩
  ihave HL := (Entails.of_eq (show (owns (c : Thread nD τ) (pieceM d h.castSucc u) fullShare.left (pv m c d h.castSucc u) : sProp 𝕄)
    = iprop(∃ f, ⌜(pieceM d h.castSucc u).view.read (Elt F) f = pv m c d h.castSucc u⌝ ∗ ((pieceM d h.castSucc u).view.loc (c : Thread nD τ) ↦[(pieceM d h.castSucc u).view.set]{fullShare.left} f)) from rfl)) $$ HL
  ihave Hd := (Entails.of_eq (show (owns (nbr d c : Thread nD τ) (pieceM d h.succ u) fullShare X : sProp 𝕄)
    = iprop(∃ f, ⌜(pieceM d h.succ u).view.read (Elt F) f = X⌝ ∗ ((pieceM d h.succ u).view.loc (nbr d c : Thread nD τ) ↦[(pieceM d h.succ u).view.set]{fullShare} f)) from rfl)) $$ Hd
  icases HL with ⟨%fs, %hfs, HL⟩
  icases Hd with ⟨%fd, -, Hd⟩
  iapply (Rounds.wp_send_pointsTo 𝒱₀ ER (Rd m) (c : Thread nD τ) none (κ₁ := K (c, .inr (.inl (h, (d, u))))) (κ₂ := K (nbr d c, .inr (.inr (h, (d, u)))))
    (r₁ := 0) (r₂ := 0) (d₁ := false) (d₂ := false) (fs := fs) (fd := fd)
    (by rw [duties_s m c (h, (d, u))]; exact Finset.mem_singleton_self _) (by rw [duties_v m (nbr d c) (h, (d, u))]; exact Finset.mem_singleton_self _)
    () () N (show (pieceM d h.succ u).view.amount (.dma (recvS d h.succ u)) = N from N_eq d h.succ u) rfl rfl O rfl (W := W)
    (by
      rw [payload_s m c (h, (d, u))]
      exact owns_of_read c (pieceM d h.castSucc u) fs hfs)
    (by
      rw [payload_v m (nbr d c) (h, (d, u))]
      unfold recvPay
      exact owns_landed (nbr d c) (pieceM d h.succ u) fd (pv m (nbr d c) d h.succ u) (hfs.trans (by unfold pv; rw [src_succ])))) $$ [HIs HIv HL Hd HO Hts HRs Htv HRv]
  · iframe HIs HIv HL Hd HO Hts HRs Htv HRv
  iintro ⟨Hc, HO⟩
  iapply Hk
  iframe Hc Hr
  iexists _; iexact HO

/-- The wait for a sub-block's arrival gives the piece. -/
theorem wp_waitRecv (d : Bool) (h : Fin 3) (u : Fin 8) (O : CellTallies nD τ sig Unit) (hO : Above (h.val + 2) O) :
    iprop(records m K ∗ levAts L lv ∗ cred (tallyAt (vCell c (h, (d, u))) () N) ∗ atPos ER (vCell c (h, (d, u))) 0 ∅ 0 ∗ ow c O)
      ⊢ iprop((iprop(atPos ER (vCell c (h, (d, u))) (0 + 1) ∅ 0
            ∗ owns (c : Thread nD τ) (pieceM d h.succ u) fullShare (pv m c d h.succ u) ∗ ow c O) -∗ Runs c k Q)
          -∗ Runs c (waitRecv d h u k) Q) := by
  unfold ow
  iintro ⟨#HR, #Hl, Hc, Ha, ⟨%W, HO⟩⟩ Hk
  ihave Hv := (record_at m K (c, .inr (.inr (h, (d, u))))) $$ HR
  icases Hv with ⟨HI, -⟩
  iapply (Rounds.wp_wait_rest_token 𝒱₀ ER (Rd m) (c : Thread nD τ) none (κ := K (c, .inr (.inr (h, (d, u)))))
      (wpE_waitDma2_eq 𝒱₀ (c : Thread nD τ) none Set.univ) (Set.mem_univ _) () (O := O) (W := W) (R := 0) (m := 0) (T := ∅)
      (by rw [Nat.zero_add, N_eq, expect_v m c (h, (d, u))])) $$ [HI Hc HO Ha]
  · isplitl [HI]; · iexact HI
    isplitl [Hc]
    · rw [N_eq]; iexact Hc
    isplitl [HO]; · iexact HO
    isplitr
    · iapply (mayWait (h.val + 2) c _ O (by rw [lv_v c (h, (d, u))]) hO) $$ Hl
    iexact Ha
  iintro ⟨HO, Ha, -, Hp⟩
  ihave Hp := (Entails.of_eq (rest_v m c (h, (d, u)))) $$ Hp
  unfold recvPay
  iapply Hk
  iframe Ha Hp
  iexists _; iexact HO

/-- The wait for a sub-block's departure gives the travelled half back. -/
theorem wp_waitSend (d : Bool) (h : Fin 3) (u : Fin 8) (O : CellTallies nD τ sig Unit) (hO : Above 0 O) :
    iprop(records m K ∗ levAts L lv ∗ cred (tallyAt (sCell c (h, (d, u))) () N) ∗ atPos ER (sCell c (h, (d, u))) 0 ∅ 0 ∗ ow c O)
      ⊢ iprop((iprop(atPos ER (sCell c (h, (d, u))) (0 + 1) ∅ 0
            ∗ owns (c : Thread nD τ) (pieceM d h.castSucc u) fullShare.left (pv m c d h.castSucc u) ∗ ow c O) -∗ Runs c k Q)
          -∗ Runs c (waitSend d h u k) Q) := by
  unfold ow
  iintro ⟨#HR, #Hl, Hc, Ha, ⟨%W, HO⟩⟩ Hk
  ihave Hv := (record_at m K (c, .inr (.inl (h, (d, u))))) $$ HR
  icases Hv with ⟨HI, -⟩
  iapply (Rounds.wp_wait_rest_token 𝒱₀ ER (Rd m) (c : Thread nD τ) none (κ := K (c, .inr (.inl (h, (d, u)))))
      (wpE_waitDma2_eq 𝒱₀ (c : Thread nD τ) none Set.univ) (Set.mem_univ _) () (O := O) (W := W) (R := 0) (m := 0) (T := ∅)
      (by rw [Nat.zero_add, N_eq, expect_s m c (h, (d, u))])) $$ [HI Hc HO Ha]
  · isplitl [HI]; · iexact HI
    isplitl [Hc]
    · rw [N_eq]; iexact Hc
    isplitl [HO]; · iexact HO
    isplitr
    · iapply (mayWait 0 c _ O (by rw [lv_s c (h, (d, u))]) hO) $$ Hl
    iexact Ha
  iintro ⟨HO, Ha, -, Hp⟩
  ihave Hp := (Entails.of_eq (rest_s m c (h, (d, u)))) $$ Hp
  unfold sendPay
  iapply Hk
  iframe Ha Hp
  iexists _; iexact HO

/-- The copy of a product under way: it gives the rows of the result and the slot. -/
def outFlight (s : F .f32) (c : Dev nD) (d : Bool) (h : Fin 4) (u : Fin 8) : sProp 𝕄 :=
  Flight EC (c : Thread nD τ) (.dma (yS d h u)) () (outM c d h u).view.dmaCredit
    iprop(owns (c : Thread nD τ) (outM c d h u) fullShare (yv m s c d h u) ∗ owns (c : Thread nD τ) (yM d h u) fullShare (yv m s c d h u))

/-- The offsets of a whole matrix are zero. -/
theorem hz : (![0, 0] : Fin 2 → Nat) = fun _ => 0 := funext fun a => by fin_cases a <;> rfl

/-- So is that of a whole vector. -/
theorem hz1 : (![0] : Fin 1 → Nat) = fun _ => 0 := funext fun a => by fin_cases a; rfl

/-- The product of a sub-block is made and its copy started. -/
theorem wp_gemm (s : F .f32) (d : Bool) (h : Fin 4) (u : Fin 8) {q : PosShare TreeShare} :
    iprop(owns (c : Thread nD τ) (pieceM d h u) q (pv m c d h u) ∗ ((c : Thread nD τ).loc cc0_scratch4 ↦{fullShare} wv m c)
        ∗ some' c (yM d h u) ∗ some' c (outM c d h u) ∗ semVal ((c : Thread nD τ), .dma (yS d h u)) 0)
      ⊢ iprop((iprop(owns (c : Thread nD τ) (pieceM d h u) q (pv m c d h u) ∗ ((c : Thread nD τ).loc cc0_scratch4 ↦{fullShare} wv m c)
            ∗ outFlight m s c d h u) -∗ Runs c k Q)
          -∗ Runs c (gemm c s d h u k) Q) := by
  iintro ⟨Hp, Hw, Hy, Ho, Hv⟩ Hk
  iapply (wp_loadSlot c squeezes_S1x64x4096_S64x4096 (pv m c d h u)) $$ Hp
  iintro Hp
  iapply (wp_load 𝒱₀ (c : Thread nD τ) none Set.univ (m := Memref.whole cc0_scratch4) (Finset.subset_univ _)) $$ Hw
  iintro Hw
  rw [show (Memref.whole cc0_scratch4).view.readAt (Elt F) (Rect.unit (s := S4096x512) ![0, 0] S4096x512.size inb_S4096x512_S4096x512_0_0).toLoadRect (wv m c) = wv m c from
    Memref.readAt_unit_zero (Elt F) cc0_scratch4 hz _ _]
  unfold some'
  icases Hy with ⟨%Y, Hy⟩
  iapply (wp_loadSlot c squeezes_S1x64x512_S64x512 Y) $$ Hy
  iintro Hy
  iapply (wp_storeSlot c squeezes_S1x64x512_S64x512) $$ [Hy]
  · unfold some'; iexists Y; iexact Hy
  iintro Hy
  iapply (wp_copyPiece c (dst := outM c d h u) (yv m s c d h u) (by decide)) $$ [Hy Ho Hv]
  · unfold some'; iframe Hy Ho Hv
  iintro Hf
  iapply Hk
  unfold outFlight
  iframe Hp Hw Hf

/-- The wait for the copy of a product. -/
theorem wp_waitOut (s : F .f32) (d : Bool) (h : Fin 4) (u : Fin 8) {O : CellTallies nD τ sig Unit} (hO : Above 0 O) :
    iprop(outFlight m s c d h u ∗ ow c O ∗ levAts L lv)
      ⊢ iprop((iprop((owns (c : Thread nD τ) (outM c d h u) fullShare (yv m s c d h u) ∗ owns (c : Thread nD τ) (yM d h u) fullShare (yv m s c d h u))
            ∗ semVal ((c : Thread nD τ), .dma (yS d h u)) 0 ∗ ow c O) -∗ Runs c k Q)
          -∗ Runs c (waitOut c d h u k) Q) :=
  wp_waitCopy c 0 (lv_none c (dec_y d h u)) hO

/-- The weights are copied, rounded and stored. -/
theorem wp_prepW {O : CellTallies nD τ sig Unit} (hO : Above 0 O) :
    iprop(((c : Thread nD τ).loc main_arg1 ↦{fullShare} m ((c : Thread nD τ).loc main_arg1))
        ∗ (∃ f, ((c : Thread nD τ).loc cc0_scratch3 ↦{fullShare} f)) ∗ (∃ f, ((c : Thread nD τ).loc cc0_scratch4 ↦{fullShare} f))
        ∗ semVal ((c : Thread nD τ), .dma cc0_scratch11.sem) 0 ∗ ow c O ∗ levAts L lv)
      ⊢ iprop((iprop(((c : Thread nD τ).loc main_arg1 ↦{fullShare} m ((c : Thread nD τ).loc main_arg1))
            ∗ (∃ f, ((c : Thread nD τ).loc cc0_scratch3 ↦{fullShare} f)) ∗ ((c : Thread nD τ).loc cc0_scratch4 ↦{fullShare} wv m c)
            ∗ semVal ((c : Thread nD τ), .dma cc0_scratch11.sem) 0 ∗ ow c O) -∗ Runs c k Q)
          -∗ Runs c (prepW k) Q) := by
  iintro ⟨Hw, ⟨%f3, H3⟩, ⟨%f4, H4⟩, Hv, HO, Hl⟩ Hk
  iapply (wp_copyPiece c (src := Memref.whole main_arg1) (dst := Memref.whole cc0_scratch3) (q := fullShare) (m ((c : Thread nD τ).loc main_arg1)) (by decide)) $$ [Hw H3 Hv]
  · unfold some'
    rw [owns_whole]
    iframe Hw Hv
    iexists f3
    rw [owns_whole]
    iexact H3
  iintro Hf
  iapply (wp_waitCopy c 0 (lv_none c dec_w) hO) $$ [Hf HO Hl]
  · iframe Hf HO Hl
  rw [owns_whole, owns_whole]
  iintro ⟨⟨H3, Hw⟩, Hv, HO⟩
  iapply (wp_load 𝒱₀ (c : Thread nD τ) none Set.univ (m := Memref.whole cc0_scratch3) (Finset.subset_univ _)) $$ H3
  iintro H3
  rw [show (Memref.whole cc0_scratch3).view.readAt (Elt F) (Rect.unit (s := S4096x512) ![0, 0] S4096x512.size inb_S4096x512_S4096x512_0_0).toLoadRect
      (m ((c : Thread nD τ).loc main_arg1)) = m ((c : Thread nD τ).loc main_arg1) from
    Memref.readAt_unit_zero (Elt F) cc0_scratch3 hz _ _]
  iapply (wp_load 𝒱₀ (c : Thread nD τ) none Set.univ (m := Memref.whole cc0_scratch4) (Finset.subset_univ _)) $$ H4
  iintro H4
  iapply (wp_store 𝒱₀ (c : Thread nD τ) none Set.univ (m := Memref.whole cc0_scratch4) (r := Rect.unit (s := S4096x512) ![0, 0] S4096x512.size inb_S4096x512_S4096x512_0_0) (Mk := Finset.univ) (Finset.subset_univ _)) $$ H4
  iintro H4
  iapply Hk
  iframe Hw Hv HO
  isplitl [H3]
  · iexists _; iexact H3
  · iapply (Entails.of_eq (congrArg (fun g => iprop((c : Thread nD τ).loc cc0_scratch4 ↦{fullShare} g)) (Memref.write_access_unit_zero_univ (Elt F) cc0_scratch4 hz _ f4
      (k0_pay17 (m ((c : Thread nD τ).loc main_arg1)))))) $$ H4

/-- The two scales are read. -/
theorem wp_readS (k : F .f32 → TProg F) (a b : S1.Idx → Elt F .f32) :
    iprop(((c : Thread nD τ).loc cc0_stg0_0 ↦{fullShare} a) ∗ ((c : Thread nD τ).loc cc0_stg1_0 ↦{fullShare} b))
      ⊢ iprop((iprop(((c : Thread nD τ).loc cc0_stg0_0 ↦{fullShare} a) ∗ ((c : Thread nD τ).loc cc0_stg1_0 ↦{fullShare} b)) -∗ Runs c (k (sv a b)) Q)
          -∗ Runs c (readS k) Q) := by
  unfold readS smemLoad
  simp only [smemLoadElt, Prog.bind_op, Prog.bind_ret]
  iintro ⟨Ha, Hb⟩ Hk
  iapply (wp_load 𝒱₀ (c : Thread nD τ) none Set.univ (m := Memref.whole cc0_stg0_0) (Finset.subset_univ _)) $$ Ha
  iintro Ha
  iapply (wp_load 𝒱₀ (c : Thread nD τ) none Set.univ (m := Memref.whole cc0_stg1_0) (Finset.subset_univ _)) $$ Hb
  iintro Hb
  rw [show (Memref.whole cc0_stg0_0).view.readAt (Elt F) (Rect.unit (s := S1) ![0] S1.size inb_S1_S1_0).toLoadRect a = a from
      Memref.readAt_unit_zero (Elt F) cc0_stg0_0 hz1 _ _,
    show (Memref.whole cc0_stg1_0).view.readAt (Elt F) (Rect.unit (s := S1) ![0] S1.size inb_S1_S1_0).toLoadRect b = b from
      Memref.readAt_unit_zero (Elt F) cc0_stg1_0 hz1 _ _]
  simp only [Prog.bind_ret]
  ihave Hk' := Hk $$ [Ha Hb]
  · iframe Ha Hb
  iexact Hk'

end

end Cert.Run
-- ==== Proof.Phases.lean ====
module

public import proofs.«01_k».proof.Proof.Moves

@[expose] public section

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : Mem0 F)

/-! ## The staging slots -/

/-- The share of `x` a direction's loads read through. -/
def qx : Bool → PosShare TreeShare
  | false => fullShare.left
  | true => fullShare.right

/-- A device's rows of `x`, at a direction's share. -/
def xPts (c : Dev nD) (d : Bool) : sProp 𝕄 := iprop((c : Thread nD τ).loc main_arg0 ↦{qx d} m ((c : Thread nD τ).loc main_arg0))

/-- A direction's staging slot: a load under way, or none. -/
def stageSt (c : Dev nD) (d : Bool) : Option (Fin 8) → sProp 𝕄
  | some u => Flight EC (c : Thread nD τ) (.dma (xS d)) () (stageM d).view.dmaCredit
      iprop(owns (c : Thread nD τ) (stageM d) fullShare (xv m c d u) ∗ xPts m c d)
  | none => iprop(xPts m c d ∗ some' c (stageM d) ∗ semVal ((c : Thread nD τ), .dma (xS d)) 0)

/-- The sub-block after a given one. -/
def nx (u : Fin 8) : Option (Fin 8) := if h : u.val < 7 then some ⟨u.val + 1, by omega⟩ else none

/-- The first sub-block of a direction in a list. -/
def nxt (d : Bool) (l : List (Bool × Fin 8)) : Option (Fin 8) := (l.find? fun p => p.1 == d).map (·.2)

/-- In the order the body takes, a direction's sub-blocks follow each other. -/
theorem nxt_tails : ∀ l ∈ subs1.tails, (l.head?.all fun p => nxt p.1 l.tail == nx p.2) = true := by decide +kernel

/-- After a sub-block comes the next of its direction. -/
theorem nxt_same {p : Bool × Fin 8} {l : List (Bool × Fin 8)} (h : (p :: l) <:+ subs1) : nxt p.1 l = nx p.2 := by
  have := nxt_tails _ ((List.mem_tails _ _).mpr h)
  exact eq_of_beq this

/-- The head is the first of its direction. -/
theorem nxt_head (p : Bool × Fin 8) (l : List (Bool × Fin 8)) : nxt p.1 (p :: l) = some p.2 := by
  unfold nxt; rw [List.find?_cons_of_pos (by simp)]; rfl

/-- The head is not of the other direction. -/
theorem nxt_other (p : Bool × Fin 8) (l : List (Bool × Fin 8)) : nxt (!p.1) (p :: l) = nxt (!p.1) l := by
  unfold nxt; rw [List.find?_cons_of_neg (by simp)]

/-- A pair over the two directions, one of them named first. -/
theorem two (d : Bool) (Φ : Bool → sProp 𝕄) : iprop(Φ false ∗ Φ true) = iprop(Φ d ∗ Φ (!d)) := by
  cases d
  · rfl
  · exact Entails.antisymm BI.sep_comm BI.sep_comm

section

variable (K : Dev nD × CI → ℕ) (c : Dev nD) {Q : PUnit → sProp (MT nD τ sig Unit (Elt F) ℕ UU ℕ)} {k : TProg F}

/-- A load into a staging slot is started. -/
theorem wp_startX (d : Bool) (u : Fin 8) :
    stageSt m c d none ⊢ iprop((stageSt m c d (some u) -∗ Runs c k Q) -∗ Runs c (startX d u k) Q) :=
  wp_copyWhole c (src := xM d u) (dst := stageM d) (q := qx d) (m ((c : Thread nD τ).loc main_arg0)) (by decide)

/-- The next load of a direction is started, if there is one. -/
theorem wp_startNext (d : Bool) (u : Fin 8) :
    stageSt m c d none ⊢ iprop((stageSt m c d (nx u) -∗ Runs c k Q) -∗ Runs c (startNext d u k) Q) := by
  unfold startNext nx
  by_cases h : u.val < 7
  · rw [dif_pos h, dif_pos h]; exact wp_startX m c d _
  · rw [dif_neg h, dif_neg h]
    iintro H Hk
    iapply Hk; iexact H

/-- A loaded sub-block is rounded and stored into the ring buffer. -/
theorem wp_castX (d : Bool) (u : Fin 8) {O : CellTallies nD τ sig Unit} (hO : Above 0 O) :
    iprop(stageSt m c d (some u) ∗ some' c (pieceM d 0 u) ∗ ow c O ∗ levAts L lv)
      ⊢ iprop((iprop(stageSt m c d none ∗ owns (c : Thread nD τ) (pieceM d 0 u) fullShare (pv m c d 0 u) ∗ ow c O) -∗ Runs c k Q)
          -∗ Runs c (castX d u k) Q) := by
  iintro ⟨Hf, Hp, HO, Hl⟩ Hk
  iapply (wp_waitCopy c 0 (lv_none c (dec_x d)) hO) $$ [Hf HO Hl]
  · unfold stageSt
    iframe Hf HO Hl
  iintro ⟨⟨Hs, Hx⟩, Hv, HO⟩
  iapply (wp_loadSlot c squeezes_S1x64x4096_S64x4096 (xv m c d u)) $$ Hs
  iintro Hs
  unfold some'
  icases Hp with ⟨%Y, Hp⟩
  iapply (wp_loadSlot c squeezes_S1x64x4096_S64x4096 Y) $$ Hp
  iintro Hp
  iapply (wp_storeSlot c squeezes_S1x64x4096_S64x4096) $$ [Hp]
  · unfold some'; iexists Y; iexact Hp
  iintro Hp
  iapply Hk
  unfold stageSt some'
  iframe Hx Hv HO
  isplitl [Hs]
  · iexists _; iexact Hs
  · iexact Hp

/-! ## The loops -/

/-- The duties of a transfer, both with the sender. -/
def toks (c : Dev nD) (i : I3) : sProp 𝕄 :=
  iprop(dutyTok ER (sCell c i) 0 false ∗ dutyTok ER (vCell (nbr i.2.1 c) i) 0 false)

/-- A piece of a device at contents of its own. -/
def anyPiece (c : Dev nD) (i : I4) : sProp 𝕄 := some' c (pieceM i.2.1 i.1 i.2.2)
/-- The piece a transfer goes to, on the neighbour, at contents of its own. -/
def farPiece (c : Dev nD) (i : I3) : sProp 𝕄 := some' (nbr i.2.1 c) (pieceM i.2.1 i.1.succ i.2.2)
/-- A piece with its value. -/
def piece (c : Dev nD) (q : PosShare TreeShare) (i : I4) : sProp 𝕄 :=
  owns (c : Thread nD τ) (pieceM i.2.1 i.1 i.2.2) q (pv m c i.2.1 i.1 i.2.2)
/-- What a product needs: its slot, its rows of the result and its semaphore. -/
def yRes (c : Dev nD) (i : I4) : sProp 𝕄 :=
  iprop(some' c (yM i.2.1 i.1 i.2.2) ∗ some' c (outM c i.2.1 i.1 i.2.2) ∗ semVal ((c : Thread nD τ), .dma (yS i.2.1 i.1 i.2.2)) 0)
/-- What a product leaves: its rows of the result, its slot and its semaphore. -/
def yDone (s : F .f32) (c : Dev nD) (i : I4) : sProp 𝕄 :=
  iprop((owns (c : Thread nD τ) (outM c i.2.1 i.1 i.2.2) fullShare (yv m s c i.2.1 i.1 i.2.2)
      ∗ owns (c : Thread nD τ) (yM i.2.1 i.1 i.2.2) fullShare (yv m s c i.2.1 i.1 i.2.2))
    ∗ semVal ((c : Thread nD τ), .dma (yS i.2.1 i.1 i.2.2)) 0)
/-- The copy of a product under way. -/
def yFly (s : F .f32) (c : Dev nD) (i : I4) : sProp 𝕄 := outFlight m s c i.2.1 i.1 i.2.2
/-- The rounded weights. -/
def wPts (c : Dev nD) : sProp 𝕄 := iprop((c : Thread nD τ).loc cc0_scratch4 ↦{fullShare} wv m c)
/-- A departure's credit. -/
def sCred (c : Dev nD) (i : I3) : sProp 𝕄 := cred (tallyAt (sCell c i) () N)
/-- An arrival's credit. -/
def vCred (c : Dev nD) (i : I3) : sProp 𝕄 := cred (tallyAt (vCell c i) () N)
/-- Where a departure's cell stands. -/
def sAt (c : Dev nD) (r : ℕ) (i : I3) : sProp 𝕄 := atPos ER (sCell c i) r ∅ 0
/-- Where an arrival's cell stands. -/
def vAt (c : Dev nD) (r : ℕ) (i : I3) : sProp 𝕄 := atPos ER (vCell c i) r ∅ 0

/-- The first sends. -/
theorem phase0 (O : CellTallies nD τ sig Unit) (hO : Above 0 O) :
    iprop(records m K ∗ levAts L lv ∗ (stageSt m c false (nxt false subs1) ∗ stageSt m c true (nxt true subs1)) ∗ ow c (O + tl c 0 subs1)
        ∗ bigSepL subs1 (fun p => iprop(anyPiece c (0, p) ∗ farPiece c (0, p) ∗ toks c (0, p))))
      ⊢ iprop((iprop((stageSt m c false none ∗ stageSt m c true none) ∗ ow c O ∗ bigSepL subs1 (fun p => iprop(sCred c (0, p) ∗ piece m c fullShare.right (0, p))))
            -∗ Runs c k Q)
          -∗ Runs c (each (fun p k => castX p.1 p.2 <| startNext p.1 p.2 <| sendP c p.1 0 p.2 k) subs1 k) Q) := by
  iintro ⟨#HR, #Hl, HS, HO, HA⟩ Hk
  iapply (wp_each c subs1 (fun p k => castX p.1 p.2 <| startNext p.1 p.2 <| sendP c p.1 0 p.2 k)
    (fun l => iprop(records m K ∗ levAts L lv ∗ (stageSt m c false (nxt false l) ∗ stageSt m c true (nxt true l)) ∗ ow c (O + tl c 0 l)))
    (fun p => iprop(anyPiece c (0, p) ∗ farPiece c (0, p) ∗ toks c (0, p)))
    (fun p => iprop(sCred c (0, p) ∗ piece m c fullShare.right (0, p))) (by
      intro p l k hs
      rw [two p.1 (fun d => stageSt m c d (nxt d (p :: l))), two p.1 (fun d => stageSt m c d (nxt d l)), nxt_head, nxt_other, nxt_same hs]
      unfold anyPiece farPiece toks sCred piece
      iintro ⟨⟨#HR, #Hl, ⟨Hd, Hn⟩, HO⟩, ⟨Hp, Hf, Hts, Htv⟩, Hk⟩
      iapply (wp_castX m c p.1 p.2 (hO.add (Above.tl 0 c 0 (by decide) _))) $$ [Hd Hp HO]
      · iframe Hd Hp HO Hl
      iintro ⟨Hd, Hp, HO⟩
      iapply (wp_startNext m c p.1 p.2) $$ Hd
      iintro Hd
      iapply (wp_sendP m K c p.1 0 p.2 (O + tl c 0 l)) $$ [Hp Hf HO Hts Htv]
      · iframe HR Hp Hf Hts Htv
        rw [add_assoc]; iexact HO
      iintro ⟨Hc, Hp, HO⟩
      iapply Hk
      iframe HR Hl Hd Hn HO Hc Hp) subs1 k (List.suffix_refl _))
  iframe HR Hl HS HO HA
  iintro ⟨⟨-, -, HS, HO⟩, HB⟩
  iapply Hk
  rw [show O + tl c 0 [] = O from add_zero O, show nxt false [] = none from rfl, show nxt true [] = none from rfl]
  iframe HS HO HB

/-- The products of a device's own rows. -/
theorem phaseG (s : F .f32) :
    iprop(wPts m c ∗ bigSepL subs (fun p => iprop(piece m c fullShare.right (0, p) ∗ yRes c (0, p))))
      ⊢ iprop((iprop(wPts m c ∗ bigSepL subs (fun p => iprop(piece m c fullShare.right (0, p) ∗ yFly m s c (0, p)))) -∗ Runs c k Q)
          -∗ Runs c (each (fun p k => gemm c s p.1 0 p.2 k) subs k) Q) := by
  iintro ⟨HW, HA⟩ Hk
  iapply (wp_each c subs (fun p k => gemm c s p.1 0 p.2 k) (fun _ => wPts m c)
    (fun p => iprop(piece m c fullShare.right (0, p) ∗ yRes c (0, p)))
    (fun p => iprop(piece m c fullShare.right (0, p) ∗ yFly m s c (0, p))) (by
      intro p l k hs
      unfold wPts piece yRes yFly
      iintro ⟨HW, ⟨Hp, Hy, Ho, Hv⟩, Hk⟩
      iapply (wp_gemm m c s p.1 0 p.2) $$ [HW Hp Hy Ho Hv]
      · iframe Hp HW Hy Ho Hv
      iintro ⟨Hp, HW, Hf⟩
      iapply Hk
      iframe HW Hp Hf) subs k (List.suffix_refl _))
  iframe HW HA
  iexact Hk

/-- A hop in the middle: a sub-block arrives, is sent on and multiplied. -/
theorem phaseH (s : F .f32) (j : Fin 2) (O : CellTallies nD τ sig Unit) (hO : Above (j.val + 2) O) :
    iprop(records m K ∗ levAts L lv ∗ wPts m c ∗ ow c (O + tl c j.succ subs)
        ∗ bigSepL subs (fun p => iprop(vCred c (j.castSucc, p) ∗ vAt c 0 (j.castSucc, p) ∗ farPiece c (j.succ, p) ∗ toks c (j.succ, p) ∗ yRes c (j.succ.castSucc, p))))
      ⊢ iprop((iprop(wPts m c ∗ ow c O
            ∗ bigSepL subs (fun p => iprop(vAt c (0 + 1) (j.castSucc, p) ∗ sCred c (j.succ, p) ∗ piece m c fullShare.right (j.succ.castSucc, p) ∗ yFly m s c (j.succ.castSucc, p))))
            -∗ Runs c k Q)
          -∗ Runs c (each (fun p k => waitRecv p.1 j.castSucc p.2 <| sendP c p.1 j.succ p.2 <| gemm c s p.1 j.succ.castSucc p.2 k) subs k) Q) := by
  iintro ⟨#HR, #Hl, HW, HO, HA⟩ Hk
  iapply (wp_each c subs (fun p k => waitRecv p.1 j.castSucc p.2 <| sendP c p.1 j.succ p.2 <| gemm c s p.1 j.succ.castSucc p.2 k)
    (fun l => iprop(records m K ∗ levAts L lv ∗ wPts m c ∗ ow c (O + tl c j.succ l)))
    (fun p => iprop(vCred c (j.castSucc, p) ∗ vAt c 0 (j.castSucc, p) ∗ farPiece c (j.succ, p) ∗ toks c (j.succ, p) ∗ yRes c (j.succ.castSucc, p)))
    (fun p => iprop(vAt c (0 + 1) (j.castSucc, p) ∗ sCred c (j.succ, p) ∗ piece m c fullShare.right (j.succ.castSucc, p) ∗ yFly m s c (j.succ.castSucc, p))) (by
      intro p l k hs
      unfold wPts piece yRes yFly vCred vAt farPiece toks sCred
      iintro ⟨⟨#HR, #Hl, HW, HO⟩, ⟨Hc, Ha, Hf, ⟨Hts, Htv⟩, Hy, Ho, Hv⟩, Hk⟩
      iapply (wp_waitRecv m K c p.1 j.castSucc p.2 _ (hO.add (Above.tl _ c j.succ (by show j.val + 2 < j.succ.val + 2; rw [Fin.val_succ]; omega) _))) $$ [Hc Ha HO]
      · iframe HR Hl Hc Ha HO
      rw [show (j.castSucc.succ : Fin 4) = j.succ.castSucc from rfl]
      iintro ⟨Ha, Hp, HO⟩
      iapply (wp_sendP m K c p.1 j.succ p.2 (O + tl c j.succ l)) $$ [Hp Hf HO Hts Htv]
      · iframe HR Hp Hf Hts Htv
        rw [add_assoc]; iexact HO
      iintro ⟨Hc, Hp, HO⟩
      iapply (wp_gemm m c s p.1 j.succ.castSucc p.2) $$ [HW Hp Hy Ho Hv]
      · iframe Hp HW Hy Ho Hv
      iintro ⟨Hp, HW, Hf⟩
      iapply Hk
      iframe HR Hl HW HO Ha Hc Hp Hf) subs k (List.suffix_refl _))
  iframe HR Hl HW HO HA
  iintro ⟨⟨-, -, HW, HO⟩, HB⟩
  iapply Hk
  rw [show O + tl c j.succ [] = O from add_zero O]
  iframe HW HO HB

/-- The last hop: a sub-block arrives and is multiplied. -/
theorem phaseL (s : F .f32) :
    iprop(records m K ∗ levAts L lv ∗ wPts m c ∗ ow c 0
        ∗ bigSepL subs (fun p => iprop(vCred c (2, p) ∗ vAt c 0 (2, p) ∗ yRes c (3, p))))
      ⊢ iprop((iprop(wPts m c ∗ ow c 0
            ∗ bigSepL subs (fun p => iprop(vAt c (0 + 1) (2, p) ∗ piece m c fullShare (3, p) ∗ yFly m s c (3, p))))
            -∗ Runs c k Q)
          -∗ Runs c (each (fun p k => waitRecv p.1 2 p.2 <| gemm c s p.1 3 p.2 k) subs k) Q) := by
  iintro ⟨#HR, #Hl, HW, HO, HA⟩ Hk
  iapply (wp_each c subs (fun p k => waitRecv p.1 2 p.2 <| gemm c s p.1 3 p.2 k)
    (fun l => iprop(records m K ∗ levAts L lv ∗ wPts m c ∗ ow c 0))
    (fun p => iprop(vCred c (2, p) ∗ vAt c 0 (2, p) ∗ yRes c (3, p)))
    (fun p => iprop(vAt c (0 + 1) (2, p) ∗ piece m c fullShare (3, p) ∗ yFly m s c (3, p))) (by
      intro p l k hs
      unfold wPts piece yRes yFly vCred vAt
      iintro ⟨⟨#HR, #Hl, HW, HO⟩, ⟨Hc, Ha, Hy, Ho, Hv⟩, Hk⟩
      iapply (wp_waitRecv m K c p.1 2 p.2 0 (Above.zero _)) $$ [Hc Ha HO]
      · iframe HR Hl Hc Ha HO
      rw [show ((2 : Fin 3).succ : Fin 4) = 3 from rfl]
      iintro ⟨Ha, Hp, HO⟩
      iapply (wp_gemm m c s p.1 3 p.2) $$ [HW Hp Hy Ho Hv]
      · iframe Hp HW Hy Ho Hv
      iintro ⟨Hp, HW, Hf⟩
      iapply Hk
      iframe HR Hl HW HO Ha Hp Hf) subs k (List.suffix_refl _))
  iframe HR Hl HW HO HA
  iintro ⟨⟨-, -, HW, HO⟩, HB⟩
  iapply Hk
  iframe HW HO HB

/-- The waits for a hop's departures. -/
theorem phaseS (h : Fin 3) :
    iprop(records m K ∗ levAts L lv ∗ ow c 0 ∗ bigSepL subs (fun p => iprop(sCred c (h, p) ∗ sAt c 0 (h, p))))
      ⊢ iprop((iprop(ow c 0 ∗ bigSepL subs (fun p => iprop(sAt c (0 + 1) (h, p) ∗ piece m c fullShare.left (h.castSucc, p)))) -∗ Runs c k Q)
          -∗ Runs c (each (fun p k => waitSend p.1 h p.2 k) subs k) Q) := by
  iintro ⟨#HR, #Hl, HO, HA⟩ Hk
  iapply (wp_each c subs (fun p k => waitSend p.1 h p.2 k)
    (fun l => iprop(records m K ∗ levAts L lv ∗ ow c 0))
    (fun p => iprop(sCred c (h, p) ∗ sAt c 0 (h, p)))
    (fun p => iprop(sAt c (0 + 1) (h, p) ∗ piece m c fullShare.left (h.castSucc, p))) (by
      intro p l k hs
      unfold piece sCred sAt
      iintro ⟨⟨#HR, #Hl, HO⟩, ⟨Hc, Ha⟩, Hk⟩
      iapply (wp_waitSend m K c p.1 h p.2 0 (Above.zero _)) $$ [Hc Ha HO]
      · iframe HR Hl Hc Ha HO
      iintro ⟨Ha, Hp, HO⟩
      iapply Hk
      iframe HR Hl HO Ha Hp) subs k (List.suffix_refl _))
  iframe HR Hl HO HA
  iintro ⟨⟨-, -, HO⟩, HB⟩
  iapply Hk
  iframe HO HB

/-- The waits for a hop's products. -/
theorem phaseO (s : F .f32) (h : Fin 4) :
    iprop(levAts L lv ∗ ow c 0 ∗ bigSepL subs (fun p => yFly m s c (h, p)))
      ⊢ iprop((iprop(ow c 0 ∗ bigSepL subs (fun p => yDone m s c (h, p))) -∗ Runs c k Q)
          -∗ Runs c (each (fun p k => waitOut c p.1 h p.2 k) subs k) Q) := by
  iintro ⟨#Hl, HO, HA⟩ Hk
  iapply (wp_each c subs (fun p k => waitOut c p.1 h p.2 k)
    (fun l => iprop(levAts L lv ∗ ow c 0))
    (fun p => yFly m s c (h, p))
    (fun p => yDone m s c (h, p)) (by
      intro p l k hs
      unfold yFly yDone
      iintro ⟨⟨#Hl, HO⟩, Hf, Hk⟩
      iapply (wp_waitOut m c s p.1 h p.2 (Above.zero _)) $$ [Hf HO]
      · iframe Hl Hf HO
      iintro ⟨Ho, Hv, HO⟩
      iapply Hk
      iframe Hl HO Hv Ho) subs k (List.suffix_refl _))
  iframe Hl HO HA
  iintro ⟨⟨-, HO⟩, HB⟩
  iapply Hk
  iframe HO HB

end

end Cert.Run
-- ==== Proof.BodyEq.lean ====
module

public import proofs.«01_k».proof.Proof.Frag

@[expose] public section

noncomputable section

namespace Cert.KernelIdeal.Gen

open Idealize.ShloMosaic Idealize.ShloMosaic.TcCoe Idealize.SL.Sem

variable {F : FTy → Type} [FloatOps F]

/-- The kernel's body is its list of steps: by unfolding. -/
theorem body_eq : cc0_body (F := F) (Memref.whole main_arg0) (Memref.isWhole_whole _) (Memref.whole main_arg1) (Memref.isWhole_whole _)
    (Memref.whole cc0_stg0_0) (Memref.isWhole_whole _) (Memref.whole cc0_stg1_0) (Memref.isWhole_whole _) (Memref.whole main_v1) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 = sBody (F := F) := by
  chain_rfl

end Cert.KernelIdeal.Gen
-- ==== Proof.Body.lean ====
module

public import proofs.«01_k».proof.Proof.Phases
public import proofs.«01_k».proof.Proof.BodyEq

@[expose] public section

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : Mem0 F)

/-! ## Families over transfers and pieces -/

/-- A list of pairs is a pair of lists. -/
theorem bigSepL_both {ι : Type} (Φ Ψ : ι → sProp 𝕄) : ∀ l : List ι,
    bigSepL l (fun i => iprop(Φ i ∗ Ψ i)) = iprop(bigSepL l Φ ∗ bigSepL l Ψ)
  | [] => by
    have h1 : (iprop(emp) : sProp 𝕄) ⊢ iprop(emp ∗ emp) := by iintro -; isplitr <;> iempintro
    have h2 : (iprop(emp ∗ emp) : sProp 𝕄) ⊢ iprop(emp) := by iintro -; iempintro
    exact Entails.antisymm h1 h2
  | i :: l => by
    rw [bigSepL_cons' i l, bigSepL_cons' i l Φ, bigSepL_cons' i l Ψ, bigSepL_both Φ Ψ l]
    have h1 : iprop((Φ i ∗ Ψ i) ∗ bigSepL l Φ ∗ bigSepL l Ψ) ⊢ iprop((Φ i ∗ bigSepL l Φ) ∗ Ψ i ∗ bigSepL l Ψ) := by
      iintro ⟨⟨H1, H2⟩, H3, H4⟩; iframe H1 H2 H3 H4
    have h2 : iprop((Φ i ∗ bigSepL l Φ) ∗ Ψ i ∗ bigSepL l Ψ) ⊢ iprop((Φ i ∗ Ψ i) ∗ bigSepL l Φ ∗ bigSepL l Ψ) := by
      iintro ⟨⟨H1, H2⟩, H3, H4⟩; iframe H1 H2 H3 H4
    exact Entails.antisymm h1 h2

/-- The first sub-block and those after it. -/
theorem subs_cons (Φ : Bool × Fin 8 → sProp 𝕄) : bigSepL subs Φ = iprop(Φ (false, 0) ∗ bigSepL subs1 Φ) := bigSepL_cons' (false, 0) subs1 Φ

/-- Everything over the sub-blocks, in the order the body takes them. -/
theorem over_subs (Φ : Bool × Fin 8 → sProp 𝕄) : bigSep Finset.univ Φ = bigSepL subs Φ :=
  bigSep_univ_eq_bigSepL subs (by decide +kernel) (by decide +kernel) Φ

/-- Everything over the transfers, hop by hop. -/
theorem split3 (Φ : I3 → sProp 𝕄) : bigSep Finset.univ Φ
    = iprop(bigSepL subs (fun p => Φ (0, p)) ∗ bigSepL subs (fun p => Φ (1, p)) ∗ bigSepL subs (fun p => Φ (2, p))) := by
  rw [bigSep_univ_prod, bigSep_univ_eq_bigSepL [0, 1, 2] (by decide) (by decide), bigSepL_cons_cons, bigSepL_cons_cons, bigSepL_singleton,
    over_subs, over_subs, over_subs]
  rfl

/-- Everything over the pieces, hop by hop. -/
theorem split4 (Φ : I4 → sProp 𝕄) : bigSep Finset.univ Φ
    = iprop(bigSepL subs (fun p => Φ (0, p)) ∗ bigSepL subs (fun p => Φ (1, p)) ∗ bigSepL subs (fun p => Φ (2, p)) ∗ bigSepL subs (fun p => Φ (3, p))) := by
  rw [bigSep_univ_prod, bigSep_univ_eq_bigSepL [0, 1, 2, 3] (by decide) (by decide), bigSepL_cons_cons, bigSepL_cons_cons, bigSepL_cons_cons, bigSepL_singleton,
    over_subs, over_subs, over_subs, over_subs]
  rfl

/-- Everything over the pieces: those of the first hop and those the transfers go to. -/
theorem splitFirst (Φ : I4 → sProp 𝕄) : bigSep Finset.univ Φ
    = iprop(bigSepL subs (fun p => Φ (0, p)) ∗ bigSep Finset.univ fun i : I3 => Φ (i.1.succ, i.2)) := by
  rw [split4, split3]; rfl

/-- Everything over the transfers, direction by direction. -/
theorem splitDir (Φ : I3 → sProp 𝕄) : bigSep Finset.univ Φ
    = iprop((bigSep Finset.univ fun p : Fin 3 × Fin 8 => Φ (p.1, (false, p.2))) ∗ bigSep Finset.univ fun p : Fin 3 × Fin 8 => Φ (p.1, (true, p.2))) := by
  rw [bigSep_univ_equiv (⟨fun x : Bool × (Fin 3 × Fin 8) => (x.2.1, (x.1, x.2.2)), fun i => (i.2.1, (i.1, i.2.2)), fun _ => rfl, fun _ => rfl⟩ : _ ≃ I3),
    bigSep_univ_prod, bigSep_univ_eq_bigSepL [false, true] (by decide) (by decide), bigSepL_cons_cons, bigSepL_singleton]
  rfl

section

variable (K : Dev nD × CI → ℕ) (c : Dev nD) {Q : PUnit → sProp (MT nD τ sig Unit (Elt F) ℕ UU ℕ)} {k : TProg F}

/-! ## The exchange of signals -/

/-- A device signals a neighbour and hands over the pieces the neighbour will send to. -/
theorem wp_signalD (d : Bool) (O : CellTallies nD τ sig Unit) :
    iprop(records m K ∗ ow c (O + tallyAt (bCell (nbr (!d) c)) () 1) ∗ dutyTok ER (bCell (nbr (!d) c)) 0 d
        ∗ bigSep Finset.univ (fun p : Fin 3 × Fin 8 => anyPiece c (p.1.succ, (d, p.2))))
      ⊢ iprop((ow c O -∗ Runs c k Q) -∗ Runs c (.op (.semSignal (Dev.tc (nbr (!d) c)) barS (1#32).toInt) fun _ => k) Q) := by
  unfold ow
  iintro ⟨#HR, ⟨%W, HO⟩, Ht, HP⟩ Hk
  ihave Hb := (record_at m K (nbr (!d) c, .inl ())) $$ HR
  icases Hb with ⟨HI, HRe⟩
  iapply (Rounds.wp_signal 𝒱₀ ER (Rd m) (c : Thread nD τ) none (dst := (nbr (!d) c : Thread nD τ)) (κ := K (nbr (!d) c, .inl ()))
      (d := d) (by rw [duties_b]; exact Finset.mem_univ _) (show (Rd (F := F) m).amount (bCell (nbr (!d) c)) 0 d = 1 from rfl) () O rfl) $$ [HI HO Ht HP HRe]
  · iframe HI HO Ht HRe
    rw [payload_b]
    unfold barPay
    rw [nbr_forth]
    iexact HP
  iintro HO
  iapply Hk
  iexists _; iexact HO

/-- A device waits for both neighbours' signals and gets their pieces. -/
theorem wp_barWait (O : CellTallies nD τ sig Unit) (hO : Above 1 O) :
    iprop(records m K ∗ levAts L lv ∗ cred (tallyAt (bCell c) () 2) ∗ atPos ER (bCell c) 0 ∅ 0 ∗ ow c O)
      ⊢ iprop((iprop(atPos ER (bCell c) (0 + 1) ∅ 0 ∗ bigSep Finset.univ (farPiece c) ∗ ow c O) -∗ Runs c k Q)
          -∗ Runs c (.op (.semWait barS (2#32).toInt) fun _ => k) Q) := by
  unfold ow
  iintro ⟨#HR, #Hl, Hc, Ha, ⟨%W, HO⟩⟩ Hk
  ihave Hv := (record_at m K (c, .inl ())) $$ HR
  icases Hv with ⟨HI, -⟩
  iapply (Rounds.wp_wait_rest_token 𝒱₀ ER (Rd m) (c : Thread nD τ) none (κ := K (c, .inl ()))
      (wpE_semWait_eq 𝒱₀ (c : Thread nD τ) none Set.univ) (Set.mem_univ _) () (O := O) (W := W) (R := 0) (m := 0) (T := ∅)
      (by rw [expect_b m c]; decide)) $$ [HI Hc HO Ha]
  · isplitl [HI]; · iexact HI
    isplitl [Hc]; · iexact Hc
    isplitl [HO]; · iexact HO
    isplitr
    · iapply (mayWait 1 c _ O (by rw [lv_b]) hO) $$ Hl
    iexact Ha
  iintro ⟨HO, Ha, -, Hp⟩
  ihave Hp := (Entails.of_eq (rest_b m c)) $$ Hp
  iapply Hk
  iframe Ha
  isplitl [Hp]
  · rw [splitDir]
    unfold farPiece barPay
    iexact Hp
  iexists _; iexact HO

/-! ## The whole body -/

/-- What a device starts with. -/
def bodyStart (c : Dev nD) (a b : S1.Idx → Elt F .f32) : sProp 𝕄 :=
  iprop(records m K ∗ levAts L lv ∗ ow c (O₀ c)
    ∗ (stageSt m c false none ∗ stageSt m c true none)
    ∗ ((c : Thread nD τ).loc main_arg1 ↦{fullShare} m ((c : Thread nD τ).loc main_arg1))
    ∗ (∃ f, ((c : Thread nD τ).loc cc0_scratch3 ↦{fullShare} f)) ∗ (∃ f, ((c : Thread nD τ).loc cc0_scratch4 ↦{fullShare} f))
    ∗ semVal ((c : Thread nD τ), .dma cc0_scratch11.sem) 0
    ∗ (((c : Thread nD τ).loc cc0_stg0_0 ↦{fullShare} a) ∗ ((c : Thread nD τ).loc cc0_stg1_0 ↦{fullShare} b))
    ∗ bigSep Finset.univ (anyPiece c) ∗ bigSep Finset.univ (yRes c)
    ∗ atPos ER (bCell c) 0 ∅ 0 ∗ bigSep Finset.univ (sAt c 0) ∗ bigSep Finset.univ (vAt c 0)
    ∗ cred (tallyAt (bCell c) () 2) ∗ bigSep Finset.univ (vCred c)
    ∗ dutyTok ER (bCell (nbr true c)) 0 false ∗ dutyTok ER (bCell (nbr false c)) 0 true ∗ bigSep Finset.univ (toks c))

/-- What a device ends with. -/
def bodyEnd (c : Dev nD) (a b : S1.Idx → Elt F .f32) : sProp 𝕄 :=
  iprop(ow c 0
    ∗ (stageSt m c false none ∗ stageSt m c true none)
    ∗ ((c : Thread nD τ).loc main_arg1 ↦{fullShare} m ((c : Thread nD τ).loc main_arg1))
    ∗ (∃ f, ((c : Thread nD τ).loc cc0_scratch3 ↦{fullShare} f)) ∗ wPts m c
    ∗ semVal ((c : Thread nD τ), .dma cc0_scratch11.sem) 0
    ∗ (((c : Thread nD τ).loc cc0_stg0_0 ↦{fullShare} a) ∗ ((c : Thread nD τ).loc cc0_stg1_0 ↦{fullShare} b))
    ∗ bigSep Finset.univ (piece m c fullShare) ∗ bigSep Finset.univ (yDone m (sv a b) c)
    ∗ atPos ER (bCell c) (0 + 1) ∅ 0 ∗ bigSep Finset.univ (sAt c (0 + 1)) ∗ bigSep Finset.univ (vAt c (0 + 1)))

/-- The two halves of each piece of a hop make the pieces. -/
theorem halves (h : Fin 4) :
    iprop(bigSepL subs (fun p => piece m c fullShare.left (h, p)) ∗ bigSepL subs (fun p => piece m c fullShare.right (h, p)))
      ⊢ bigSepL subs (fun p => piece m c fullShare (h, p)) := by
  rw [← bigSepL_both]
  exact bigSepL_mono fun p _ => (owns_halves (c : Thread nD τ) (pieceM p.1 h p.2) fullShare (pv m c p.1 h p.2)).2

/-- From the first transfer on, everything owed lies above the barrier. -/
theorem O₂_above1 (c : Dev nD) : Above 1 (O₂ c) :=
  ((Above.tl 1 c 2 (by decide) _).add (Above.tl 1 c 1 (by decide) _)).add (Above.tl 1 c 0 (by decide) _)

/-- And above the level of the local cells. -/
theorem O₂_above (c : Dev nD) : Above 0 (O₂ c) := fun g u h => ⟨Nat.lt_of_succ_lt (O₂_above1 c g u h).1, (O₂_above1 c g u h).2⟩

/-- What is owed, the first transfer named. -/
theorem O₂_head (c : Dev nD) : O₂ c = tl c 2 subs + tl c 1 subs + tl c 0 subs1 + tallyAt (vCell (nbr false c) (0, (false, 0))) () N :=
  (add_assoc _ _ _).symm

/-- The body takes a device from start to end. -/
theorem wp_sBody (a b : S1.Idx → Elt F .f32) :
    bodyStart m K c a b ⊢ iprop((bodyEnd m c a b -∗ Q ⟨⟩) -∗ Runs c sBody Q) := by
  unfold bodyStart sBody
  rw [splitFirst (anyPiece c), splitDir (fun i : I3 => anyPiece (F := F) c (i.1.succ, i.2)), split4 (yRes c), split3 (sAt c 0), split3 (vAt c 0), split3 (vCred c), split3 (toks c)]
  iintro ⟨#HR, #Hl, HO, ⟨Hx0, Hx1⟩, Hw, H3, H4, Hws, HS, ⟨HP0, HPf, HPt⟩, ⟨HY0, HY1, HY2, HY3⟩, Hb, ⟨Hs0, Hs1, Hs2⟩, ⟨Hv0, Hv1, Hv2⟩, Hcb, ⟨Hc0, Hc1, Hc2⟩, Htf, Htt, ⟨Ht0, Ht1, Ht2⟩⟩ Hk
  rw [Runs, wp_deviceId]
  -- the first two loads and the two signals
  iapply (wp_startX m c false 0) $$ Hx0
  iintro Hx0
  iapply (wp_startX m c true 0) $$ Hx1
  iintro Hx1
  iapply (wp_signalD m K c false (O₁ c)) $$ [HO Htf HPf]
  · iframe HR HO Htf HPf
  iintro HO
  iapply (wp_signalD m K c true (O₂ c)) $$ [HO Htt HPt]
  · iframe HR HO Htt HPt
  iintro HO
  -- the first sub-block, and the wait for the neighbours
  ihave HP0 := (Entails.of_eq (subs_cons _)) $$ HP0
  ihave Ht0 := (Entails.of_eq (subs_cons _)) $$ Ht0
  icases HP0 with ⟨HPa, HP0⟩
  icases Ht0 with ⟨Hta, Ht0⟩
  iapply (wp_castX m c false 0 (O₂_above c)) $$ [Hx0 HPa HO]
  · unfold anyPiece
    iframe Hx0 HPa HO Hl
  iintro ⟨Hx0, HPa, HO⟩
  iapply (wp_startNext m c false 0) $$ Hx0
  iintro Hx0
  iapply (wp_barWait m K c (O₂ c) (O₂_above1 c)) $$ [Hcb Hb HO]
  · iframe HR Hl Hcb Hb HO
  iintro ⟨Hb, HF, HO⟩
  ihave HF := (Entails.of_eq (split3 (farPiece c))) $$ HF
  icases HF with ⟨HF0, HF1, HF2⟩
  ihave HF0 := (Entails.of_eq (subs_cons _)) $$ HF0
  icases HF0 with ⟨HFa, HF0⟩
  -- the first sends
  ihave HO := (Entails.of_eq (congrArg (ow c) (O₂_head c))) $$ HO
  iapply (wp_sendP m K c false 0 0 (tl c 2 subs + tl c 1 subs + tl c 0 subs1)) $$ [HPa HFa HO Hta]
  · unfold toks farPiece
    icases Hta with ⟨Hta, Htb⟩
    iframe HR HPa HFa HO Hta Htb
  iintro ⟨Hsa, HPa, HO⟩
  iapply (phase0 m K c (tl c 2 subs + tl c 1 subs) ((Above.tl 0 c 2 (by decide) _).add (Above.tl 0 c 1 (by decide) _))) $$ [Hx0 Hx1 HO HP0 HF0 Ht0]
  · iframe HR Hl HO
    isplitl [Hx0 Hx1]
    · isplitl [Hx0]
      · iexact Hx0
      · iexact Hx1
    rw [bigSepL_both, bigSepL_both]
    iframe HP0 HF0 Ht0
  rw [bigSepL_both]
  iintro ⟨⟨Hx0, Hx1⟩, HO, Hsc0, HP0⟩
  -- the weights and the scales
  iapply (wp_prepW m c ((Above.tl 0 c 2 (by decide) _).add (Above.tl 0 c 1 (by decide) _))) $$ [Hw H3 H4 Hws HO]
  · iframe Hw H3 H4 Hws HO Hl
  iintro ⟨Hw, H3, H4, Hws, HO⟩
  iapply (wp_readS c _ a b) $$ HS
  iintro HS
  -- the products, hop by hop
  iapply (phaseG m c (sv a b)) $$ [H4 HPa HP0 HY0]
  · unfold wPts
    rw [bigSepL_both, subs_cons (fun p => piece m c fullShare.right (0, p))]
    iframe H4 HP0 HY0
    iapply (show owns (c : Thread nD τ) (pieceM false (Fin.castSucc 0) 0) fullShare.right (pv m c false (Fin.castSucc 0) 0)
      ⊢ piece m c fullShare.right (0, (false, 0)) from Entails.rfl) $$ HPa
  rw [bigSepL_both]
  iintro ⟨H4, HP0, HY0⟩
  iapply (phaseH m K c (sv a b) 0 (tl c 2 subs) (Above.tl 2 c 2 (by decide) _)) $$ [H4 HO Hc0 Hv0 HF1 Ht1 HY1]
  · rw [bigSepL_both, bigSepL_both, bigSepL_both, bigSepL_both]
    iframe HR Hl H4
    isplitl [HO]; · iexact HO
    isplitl [Hc0]; · iexact Hc0
    isplitl [Hv0]; · iexact Hv0
    isplitl [HF1]; · iexact HF1
    isplitl [Ht1]; · iexact Ht1
    iexact HY1
  rw [bigSepL_both, bigSepL_both, bigSepL_both]
  iintro ⟨H4, HO, Hv0, Hsc1, HP1, HY1⟩
  iapply (phaseH m K c (sv a b) 1 0 (Above.zero _)) $$ [H4 HO Hc1 Hv1 HF2 Ht2 HY2]
  · rw [bigSepL_both, bigSepL_both, bigSepL_both, bigSepL_both]
    iframe HR Hl H4
    isplitl [HO]
    · rw [zero_add]; iexact HO
    isplitl [Hc1]; · iexact Hc1
    isplitl [Hv1]; · iexact Hv1
    isplitl [HF2]; · iexact HF2
    isplitl [Ht2]; · iexact Ht2
    iexact HY2
  rw [bigSepL_both, bigSepL_both, bigSepL_both]
  iintro ⟨H4, HO, Hv1, Hsc2, HP2, HY2⟩
  iapply (phaseL m K c (sv a b)) $$ [H4 HO Hc2 Hv2 HY3]
  · rw [bigSepL_both, bigSepL_both]
    iframe HR Hl H4 HO Hc2 Hv2 HY3
  rw [bigSepL_both, bigSepL_both]
  iintro ⟨H4, HO, Hv2, HP3, HY3⟩
  -- the waits for the departures
  iapply (phaseS m K c 0) $$ [HO Hsc0 Hsa Hs0]
  · rw [bigSepL_both, subs_cons (fun p => sCred c (0, p))]
    iframe HR Hl HO Hs0 Hsc0
    iapply (show cred (tallyAt (sCell c (0, (false, 0))) () N) ⊢ (sCred c (0, (false, 0)) : sProp 𝕄) from Entails.rfl) $$ Hsa
  rw [bigSepL_both]
  iintro ⟨HO, Hs0, HL0⟩
  iapply (phaseS m K c 1) $$ [HO Hsc1 Hs1]
  · rw [bigSepL_both]
    iframe HR Hl HO Hs1
    iexact Hsc1
  rw [bigSepL_both]
  iintro ⟨HO, Hs1, HL1⟩
  iapply (phaseS m K c 2) $$ [HO Hsc2 Hs2]
  · rw [bigSepL_both]
    iframe HR Hl HO Hs2
    iexact Hsc2
  rw [bigSepL_both]
  iintro ⟨HO, Hs2, HL2⟩
  -- the waits for the products
  iapply (phaseO m c (sv a b) 0) $$ [HO HY0]
  · iframe Hl HO HY0
  iintro ⟨HO, HY0⟩
  iapply (phaseO m c (sv a b) 1) $$ [HO HY1]
  · iframe Hl HO; iexact HY1
  iintro ⟨HO, HY1⟩
  iapply (phaseO m c (sv a b) 2) $$ [HO HY2]
  · iframe Hl HO; iexact HY2
  iintro ⟨HO, HY2⟩
  iapply (phaseO m c (sv a b) 3) $$ [HO HY3]
  · iframe Hl HO HY3
  iintro ⟨HO, HY3⟩
  -- the halves joined, and the end
  ihave HP0 := (halves m c 0) $$ [HL0 HP0]
  · isplitl [HL0]; · iexact HL0
    iexact HP0
  ihave HP1 := (halves m c 1) $$ [HL1 HP1]
  · isplitl [HL1]; · iexact HL1
    iexact HP1
  ihave HP2 := (halves m c 2) $$ [HL2 HP2]
  · isplitl [HL2]; · iexact HL2
    iexact HP2
  rw [Runs, wp_ret]; imodintro
  iapply Hk
  unfold bodyEnd
  rw [split4 (piece m c fullShare), split4 (yDone m (sv a b) c), split3 (sAt c (0 + 1)), split3 (vAt c (0 + 1))]
  iframe HO Hx0 Hx1 Hw H3 H4 Hws HS HP0 HP1 HP2 HP3 HY0 HY1 HY2 HY3 Hb Hs0 Hs1 Hs2 Hv2
  isplitl [Hv0]
  · iexact Hv0
  · iexact Hv1

end

end Cert.Run
-- ==== Proof.Tiles.lean ====
module

public import proofs.«01_k».proof.Proof.Phases
public import Idealize.ShloMosaic.Lib.Ring

@[expose] public section

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : Mem0 F)

/-- What holds of each member holds of all. -/
theorem each {T : Type} [Fintype T] {Φ Ψ : T → sProp 𝕄} (h : ∀ t, Φ t ⊢ Ψ t) : (bigSep Finset.univ Φ : sProp 𝕄) ⊢ bigSep Finset.univ Ψ :=
  bigSep_mono fun t _ => h t

/-! ## A buffer and its slots -/

section Slots

variable (c : Dev nD) (b : Ref sig .tc) {T : Type} [Fintype T] [DecidableEq T] {s' : Shape} (r : T → Rect b.ty.shape)
  (hr : ∀ t a, (r t).stride a = 1) (hq : ∀ t, (r t).shape.Squeezes s')
  (hd : ∀ t t', t ≠ t' → Disjoint (r t).set (r t').set) (hc : (Finset.univ : Finset T).biUnion (fun t => (r t).set) = Finset.univ)

/-- The places of a slot are its rectangle's. -/
theorem set_slot (t : T) : (((Memref.whole b).slice (r t) (hr t)).squeeze s' (hq t)).view.set = (r t).set :=
  (Memref.set_view_squeeze _ _).trans (View.set_slice_whole b (r t))

include hd hc in
/-- A buffer at some contents is its slots, each at contents of its own. -/
theorem slots_split : (iprop(∃ f : Buf (Elt F) ((c : Thread nD τ).loc b), ((c : Thread nD τ).loc b) ↦{fullShare} f) : sProp 𝕄)
    ⊢ bigSep Finset.univ fun t => some' c (((Memref.whole b).slice (r t) (hr t)).squeeze s' (hq t)) := by
  iintro ⟨%f, H⟩
  ihave H := (Entails.of_eq (Ring.pointsTo_blocks (ℓ := (c : Thread nD τ).loc b) (fun t => (r t).set) hd hc f)) $$ H
  have h (t : T) : (iprop(((c : Thread nD τ).loc b) ↦[(r t).set]{fullShare} f) : sProp 𝕄) ⊢ some' c (((Memref.whole b).slice (r t) (hr t)).squeeze s' (hq t)) := by
    unfold some'
    iintro H
    iexists _
    iapply (owns_of_read c (((Memref.whole b).slice (r t) (hr t)).squeeze s' (hq t)) f rfl)
    iapply (Entails.of_eq (congrArg (fun S : Finset b.ty.shape.Idx => iprop(((c : Thread nD τ).loc b) ↦[S]{fullShare} f)) (set_slot b r hr hq t).symm)) $$ H
  iapply (each h) $$ H

include hd hc in
/-- The slots of a buffer, each at contents of its own, are the buffer at some contents. -/
theorem slots_join (f₀ : Buf (Elt F) ((c : Thread nD τ).loc b)) :
    (bigSep Finset.univ fun t => some' c (((Memref.whole b).slice (r t) (hr t)).squeeze s' (hq t)))
      ⊢ (iprop(∃ f : Buf (Elt F) ((c : Thread nD τ).loc b), ((c : Thread nD τ).loc b) ↦{fullShare} f) : sProp 𝕄) := by
  have h (t : T) : (some' c (((Memref.whole b).slice (r t) (hr t)).squeeze s' (hq t)) : sProp 𝕄)
      ⊢ iprop(∃ f : Buf (Elt F) ((c : Thread nD τ).loc b), ((c : Thread nD τ).loc b) ↦[(r t).set]{fullShare} f) := by
    unfold some' owns
    iintro ⟨%X, %f, -, H⟩
    iexists f
    iapply (Entails.of_eq (congrArg (fun S : Finset b.ty.shape.Idx => iprop(((c : Thread nD τ).loc b) ↦[S]{fullShare} f)) (set_slot b r hr hq t))) $$ H
  exact (bigSep_mono fun t _ => h t).trans (Ring.pointsTo_blocks_join_exists (ℓ := (c : Thread nD τ).loc b) (fun t => (r t).set) hd hc f₀)

end Slots

/-! ## The four families of slots -/

/-- A family covers a shape when every index lies in one of its rectangles. -/
theorem covers {s : Shape} {T : Type} [Fintype T] (r : T → Rect s) (h : ∀ i : s.Idx, ∃ t, i ∈ (r t).set) :
    (Finset.univ : Finset T).biUnion (fun t => (r t).set) = Finset.univ :=
  Finset.eq_univ_iff_forall.mpr fun i => (h i).elim fun t ht => Finset.mem_biUnion.mpr ⟨t, Finset.mem_univ t, ht⟩

/-- Two pieces of a ring buffer do not meet. -/
theorem ring_disjoint (t t' : Fin 4 × Fin 8) (h : t ≠ t') : Disjoint (rectP t.1 t.2).set (rectP t'.1 t'.2).set := by
  by_cases h1 : t.1 = t'.1
  · have h2 : t.2.val ≠ t'.2.val := fun e => h (Prod.ext h1 (Fin.ext e))
    exact Rect.unit_disjoint 1 (show 64 * t.2.val + 64 ≤ 64 * t'.2.val ∨ 64 * t'.2.val + 64 ≤ 64 * t.2.val by omega)
  · have h2 : t.1.val ≠ t'.1.val := fun e => h1 (Fin.ext e)
    exact Rect.unit_disjoint 0 (show t.1.val + 1 ≤ t'.1.val ∨ t'.1.val + 1 ≤ t.1.val by omega)

/-- The pieces of a ring buffer cover it. -/
theorem ring_covers : (Finset.univ : Finset (Fin 4 × Fin 8)).biUnion (fun t => (rectP t.1 t.2).set) = Finset.univ :=
  covers (fun t : Fin 4 × Fin 8 => rectP t.1 t.2) fun i => by
    have h0 : (i 0).val < 4 := (i 0).isLt
    have h1 : (i 1).val < 512 := (i 1).isLt
    have h2 : (i 2).val < 4096 := (i 2).isLt
    refine ⟨(⟨(i 0).val, h0⟩, ⟨(i 1).val / 64, by omega⟩), Rect.mem_set_unit.mpr fun a => ?_⟩
    match a with
    | ⟨0, _⟩ => exact show (i 0).val ≤ (i 0).val ∧ (i 0).val < (i 0).val + 1 by omega
    | ⟨1, _⟩ => exact show 64 * ((i 1).val / 64) ≤ (i 1).val ∧ (i 1).val < 64 * ((i 1).val / 64) + 64 by omega
    | ⟨2, _⟩ => exact show 0 ≤ (i 2).val ∧ (i 2).val < 0 + 4096 by omega

/-- The two staging slots do not meet. -/
theorem stage_disjoint (t t' : Bool) (h : t ≠ t') : Disjoint (rectS t).set (rectS t').set :=
  Rect.unit_disjoint 0 (show t.toNat + 1 ≤ t'.toNat ∨ t'.toNat + 1 ≤ t.toNat by revert t t'; decide)

/-- The two staging slots cover their buffer. -/
theorem stage_covers : (Finset.univ : Finset Bool).biUnion (fun t => (rectS t).set) = Finset.univ :=
  covers rectS fun i => by
    have h0 : (i 0).val < 2 := (i 0).isLt
    have h1 : (i 1).val < 64 := (i 1).isLt
    have h2 : (i 2).val < 4096 := (i 2).isLt
    have hb : ∀ n < 2, (decide (n = 1)).toNat = n := by decide
    refine ⟨decide ((i 0).val = 1), Rect.mem_set_unit.mpr fun a => ?_⟩
    match a with
    | ⟨0, _⟩ => exact show (decide ((i 0).val = 1)).toNat ≤ (i 0).val ∧ (i 0).val < (decide ((i 0).val = 1)).toNat + 1 by rw [hb _ h0]; omega
    | ⟨1, _⟩ => exact show 0 ≤ (i 1).val ∧ (i 1).val < 0 + 64 by omega
    | ⟨2, _⟩ => exact show 0 ≤ (i 2).val ∧ (i 2).val < 0 + 4096 by omega

/-- Different pieces have different result slots. -/
theorem slot_ne : ∀ t t' : I4, t ≠ t' → slot t.2.1 t.1 t.2.2 ≠ slot t'.2.1 t'.1 t'.2.2 := by decide +kernel

/-- The result slots do not meet. -/
theorem y_disjoint (t t' : I4) (h : t ≠ t') : Disjoint (rectY t.2.1 t.1 t.2.2).set (rectY t'.2.1 t'.1 t'.2.2).set := by
  have := slot_ne t t' h
  exact Rect.unit_disjoint 0 (show slot t.2.1 t.1 t.2.2 + 1 ≤ slot t'.2.1 t'.1 t'.2.2 ∨ slot t'.2.1 t'.1 t'.2.2 + 1 ≤ slot t.2.1 t.1 t.2.2 by omega)

/-- Every number below sixty-four is a result slot. -/
theorem slot_onto : ∀ n : Fin 64, ∃ t : I4, slot t.2.1 t.1 t.2.2 = n.val := by decide +kernel

/-- The result slots cover their scratch. -/
theorem y_covers : (Finset.univ : Finset I4).biUnion (fun t => (rectY t.2.1 t.1 t.2.2).set) = Finset.univ :=
  covers (fun t : I4 => rectY t.2.1 t.1 t.2.2) fun i => by
    have h0 : (i 0).val < 64 := (i 0).isLt
    have h1 : (i 1).val < 64 := (i 1).isLt
    have h2 : (i 2).val < 512 := (i 2).isLt
    obtain ⟨t, ht⟩ := slot_onto ⟨(i 0).val, h0⟩
    refine ⟨t, Rect.mem_set_unit.mpr fun a => ?_⟩
    match a with
    | ⟨0, _⟩ => exact show slot t.2.1 t.1 t.2.2 ≤ (i 0).val ∧ (i 0).val < slot t.2.1 t.1 t.2.2 + 1 by rw [ht]; exact ⟨le_refl _, Nat.lt_succ_self _⟩
    | ⟨1, _⟩ => exact show 0 ≤ (i 1).val ∧ (i 1).val < 0 + 64 by omega
    | ⟨2, _⟩ => exact show 0 ≤ (i 2).val ∧ (i 2).val < 0 + 512 by omega

/-- The rows of the result a piece makes, as a rectangle. -/
abbrev rectO (c : Dev nD) (t : I4) : Rect S4096x512 :=
  Rect.unit (s := S4096x512) (offO c t.2.1 t.1 t.2.2) S64x512.size (inbO c t.2.1 t.1 t.2.2)

/-- The block of sixty-four rows a piece makes. -/
def blkO (c : Dev nD) (t : I4) : ℕ := 16 * ((c.val + far t.2.1 t.1) % 4) + 8 * t.2.1.toNat + t.2.2.val

/-- Different pieces make different blocks. -/
theorem blkO_ne : ∀ (c : Dev nD) (t t' : I4), t ≠ t' → blkO c t ≠ blkO c t' := by decide +kernel

/-- Every block is some piece's. -/
theorem blkO_onto : ∀ (c : Dev nD) (n : Fin 64), ∃ t : I4, blkO c t = n.val := by decide +kernel

/-- The first row of a piece's rows. -/
theorem offO_0 (c : Dev nD) (t : I4) : offO c t.2.1 t.1 t.2.2 0 = 64 * blkO c t := by
  rw [offO_eq]; unfold blkO
  show 1024 * ((c.val + far t.2.1 t.1) % 4) + 512 * t.2.1.toNat + 64 * t.2.2.val = _
  omega

/-- A piece's rows are whole rows. -/
theorem offO_1 (c : Dev nD) (t : I4) : offO c t.2.1 t.1 t.2.2 1 = 0 := by
  rw [offO_eq]; rfl

/-- The pieces' rows do not meet. -/
theorem out_disjoint (c : Dev nD) (t t' : I4) (h : t ≠ t') : Disjoint (rectO c t).set (rectO c t').set := by
  have := blkO_ne c t t' h
  refine Rect.unit_disjoint 0 ?_
  rw [offO_0, offO_0]
  exact show 64 * blkO c t + 64 ≤ 64 * blkO c t' ∨ 64 * blkO c t' + 64 ≤ 64 * blkO c t by omega

/-- The pieces' rows cover the result. -/
theorem out_covers (c : Dev nD) : (Finset.univ : Finset I4).biUnion (fun t => (rectO c t).set) = Finset.univ :=
  covers (rectO c) fun i => by
    have h0 : (i 0).val < 4096 := (i 0).isLt
    have h1 : (i 1).val < 512 := (i 1).isLt
    obtain ⟨t, ht⟩ := blkO_onto c ⟨(i 0).val / 64, by omega⟩
    refine ⟨t, Rect.mem_set_unit.mpr fun a => ?_⟩
    match a with
    | ⟨0, _⟩ =>
      refine (show offO c t.2.1 t.1 t.2.2 0 ≤ (i 0).val ∧ (i 0).val < offO c t.2.1 t.1 t.2.2 0 + 64 from ?_)
      rw [offO_0, ht]
      show 64 * ((i 0).val / 64) ≤ (i 0).val ∧ (i 0).val < 64 * ((i 0).val / 64) + 64
      omega
    | ⟨1, _⟩ =>
      refine (show offO c t.2.1 t.1 t.2.2 1 ≤ (i 1).val ∧ (i 1).val < offO c t.2.1 t.1 t.2.2 1 + 512 from ?_)
      rw [offO_1]
      omega

/-- What the kernel leaves in a device's result. -/
def outF (s : F .f32) (c : Dev nD) : (main_v1 : Ref sig .tc).ty.Contents (Elt F) :=
  Rect.glue (rectO c) (out_covers c) fun t => yv m s c t.2.1 t.1 t.2.2

/-! ## The buffers split and joined -/

section

variable (c : Dev nD)

/-- The two ring buffers are their pieces. -/
theorem pieces_split : iprop((∃ f : Buf (Elt F) ((c : Thread nD τ).loc cc0_scratch0), ((c : Thread nD τ).loc cc0_scratch0) ↦{fullShare} f)
      ∗ ∃ f : Buf (Elt F) ((c : Thread nD τ).loc cc0_scratch1), ((c : Thread nD τ).loc cc0_scratch1) ↦{fullShare} f)
    ⊢ (bigSep Finset.univ (anyPiece c) : sProp 𝕄) := by
  rw [bigSep_univ_equiv (⟨fun x : Bool × (Fin 4 × Fin 8) => (x.2.1, (x.1, x.2.2)), fun i => (i.2.1, (i.1, i.2.2)), fun _ => rfl, fun _ => rfl⟩ : _ ≃ I4),
    bigSep_univ_prod, bigSep_univ_eq_bigSepL [false, true] (by decide) (by decide), bigSepL_cons_cons, bigSepL_singleton]
  exact BIClass.sep_mono
    (slots_split c cc0_scratch0 (fun t : Fin 4 × Fin 8 => rectP t.1 t.2) (fun _ _ => rfl) (fun _ => squeezes_S1x64x4096_S64x4096) ring_disjoint ring_covers)
    (slots_split c cc0_scratch1 (fun t : Fin 4 × Fin 8 => rectP t.1 t.2) (fun _ _ => rfl) (fun _ => squeezes_S1x64x4096_S64x4096) ring_disjoint ring_covers)

/-- The pieces are the two ring buffers. -/
theorem pieces_join : (bigSep Finset.univ (piece m c fullShare) : sProp 𝕄)
    ⊢ iprop((∃ f : Buf (Elt F) ((c : Thread nD τ).loc cc0_scratch0), ((c : Thread nD τ).loc cc0_scratch0) ↦{fullShare} f)
      ∗ ∃ f : Buf (Elt F) ((c : Thread nD τ).loc cc0_scratch1), ((c : Thread nD τ).loc cc0_scratch1) ↦{fullShare} f) := by
  have h (i : I4) : piece m c fullShare i ⊢ (anyPiece c i : sProp 𝕄) := by
    unfold piece anyPiece some'
    iintro H; iexists _; iexact H
  refine (bigSep_mono fun i _ => h i).trans ?_
  rw [bigSep_univ_equiv (⟨fun x : Bool × (Fin 4 × Fin 8) => (x.2.1, (x.1, x.2.2)), fun i => (i.2.1, (i.1, i.2.2)), fun _ => rfl, fun _ => rfl⟩ : _ ≃ I4),
    bigSep_univ_prod, bigSep_univ_eq_bigSepL [false, true] (by decide) (by decide), bigSepL_cons_cons, bigSepL_singleton]
  exact BIClass.sep_mono
    (slots_join c cc0_scratch0 (fun t : Fin 4 × Fin 8 => rectP t.1 t.2) (fun _ _ => rfl) (fun _ => squeezes_S1x64x4096_S64x4096) ring_disjoint ring_covers (m _))
    (slots_join c cc0_scratch1 (fun t : Fin 4 × Fin 8 => rectP t.1 t.2) (fun _ _ => rfl) (fun _ => squeezes_S1x64x4096_S64x4096) ring_disjoint ring_covers (m _))

/-- The staging buffer is its two slots. -/
theorem stage_split : (iprop(∃ f : Buf (Elt F) ((c : Thread nD τ).loc cc0_scratch2), ((c : Thread nD τ).loc cc0_scratch2) ↦{fullShare} f) : sProp 𝕄)
    ⊢ iprop(some' c (stageM false) ∗ some' c (stageM true)) := by
  refine (slots_split c cc0_scratch2 rectS (fun _ _ => rfl) (fun _ => squeezes_S1x64x4096_S64x4096) stage_disjoint stage_covers).trans ?_
  rw [bigSep_univ_eq_bigSepL [false, true] (by decide) (by decide), bigSepL_cons_cons, bigSepL_singleton]
  exact Entails.rfl

include m in
/-- The two staging slots are the staging buffer. -/
theorem stage_join : iprop(some' c (stageM false) ∗ some' c (stageM true))
    ⊢ (iprop(∃ f : Buf (Elt F) ((c : Thread nD τ).loc cc0_scratch2), ((c : Thread nD τ).loc cc0_scratch2) ↦{fullShare} f) : sProp 𝕄) := by
  refine BIBase.Entails.trans ?_ (slots_join c cc0_scratch2 rectS (fun _ _ => rfl) (fun _ => squeezes_S1x64x4096_S64x4096) stage_disjoint stage_covers (m _))
  rw [bigSep_univ_eq_bigSepL [false, true] (by decide) (by decide), bigSepL_cons_cons, bigSepL_singleton]
  exact Entails.rfl

/-- The result scratch and the result are what the products need. -/
theorem y_split : iprop((∃ f : Buf (Elt F) ((c : Thread nD τ).loc cc0_scratch5), ((c : Thread nD τ).loc cc0_scratch5) ↦{fullShare} f)
      ∗ (((c : Thread nD τ).loc main_v1) ↦{fullShare} m ((c : Thread nD τ).loc main_v1))
      ∗ bigSep Finset.univ fun t : I4 => semVal ((c : Thread nD τ), .dma (yS t.2.1 t.1 t.2.2)) 0)
    ⊢ (bigSep Finset.univ (yRes c) : sProp 𝕄) := by
  have h := owns_rects (Val := Elt F) (Ix := Unit) (Name := ℕ) (Lvl := ℕ) (U := UU) (c : Thread nD τ) (Memref.whole main_v1) fullShare (rectO c) (fun _ _ => rfl) (out_disjoint c) (out_covers c) (m ((c : Thread nD τ).loc main_v1))
  rw [owns_whole] at h
  unfold yRes
  rw [bigSep_sep', bigSep_sep']
  iintro ⟨HY, HO, HS⟩
  iframe HS
  isplitl [HY]
  · iapply (slots_split c cc0_scratch5 (fun t : I4 => rectY t.2.1 t.1 t.2.2) (fun _ _ => rfl) (fun _ => squeezes_S1x64x512_S64x512) y_disjoint y_covers) $$ HY
  · ihave HO := h $$ HO
    have h2 (t : I4) : (owns (c : Thread nD τ) ((Memref.whole main_v1).slice (rectO c t) (fun _ => rfl)) fullShare (fun j => m ((c : Thread nD τ).loc main_v1) ((rectO c t).emb j)) : sProp 𝕄)
        ⊢ some' c (outM c t.2.1 t.1 t.2.2) := by
      unfold some'
      iintro H; iexists _; iexact H
    iapply (each h2) $$ HO

/-- What the products leave is the result, its scratch and the semaphores. -/
theorem y_join (s : F .f32) : (bigSep Finset.univ (yDone m s c) : sProp 𝕄)
    ⊢ iprop((∃ f : Buf (Elt F) ((c : Thread nD τ).loc cc0_scratch5), ((c : Thread nD τ).loc cc0_scratch5) ↦{fullShare} f)
      ∗ (((c : Thread nD τ).loc main_v1) ↦{fullShare} outF m s c)
      ∗ bigSep Finset.univ fun t : I4 => semVal ((c : Thread nD τ), .dma (yS t.2.1 t.1 t.2.2)) 0) := by
  have h := owns_of_rects (Val := Elt F) (Ix := Unit) (Name := ℕ) (Lvl := ℕ) (U := UU) (c : Thread nD τ) (Memref.whole main_v1) fullShare (rectO c) (fun _ _ => rfl) (out_disjoint c) (out_covers c) (outF m s c)
  rw [owns_whole] at h
  unfold yDone
  rw [bigSep_sep', bigSep_sep']
  iintro ⟨⟨HO, HY⟩, HS⟩
  iframe HS
  isplitl [HY]
  · have h2 (t : I4) : (owns (c : Thread nD τ) (yM t.2.1 t.1 t.2.2) fullShare (yv m s c t.2.1 t.1 t.2.2) : sProp 𝕄)
        ⊢ some' c (yM t.2.1 t.1 t.2.2) := by
      unfold some'
      iintro H; iexists _; iexact H
    iapply (slots_join c cc0_scratch5 (fun t : I4 => rectY t.2.1 t.1 t.2.2) (fun _ _ => rfl) (fun _ => squeezes_S1x64x512_S64x512) y_disjoint y_covers (m _))
    iapply (each h2) $$ HY
  · iapply h
    have h2 (t : I4) : (owns (c : Thread nD τ) (outM c t.2.1 t.1 t.2.2) fullShare (yv m s c t.2.1 t.1 t.2.2) : sProp 𝕄)
        ⊢ owns (c : Thread nD τ) ((Memref.whole main_v1).slice (rectO c t) (fun _ => rfl)) fullShare (fun j => outF m s c ((rectO c t).emb j)) :=
      Entails.of_eq (congrArg (owns (c : Thread nD τ) ((Memref.whole main_v1).slice (rectO c t) (fun _ => rfl)) fullShare)
        (funext fun j => (Rect.glue_emb (rectO c) (out_covers c) (out_disjoint c) (fun t => yv m s c t.2.1 t.1 t.2.2) t j).symm))
    iapply (each h2) $$ HO

end

end Cert.Run
-- ==== Proof.Ghost.lean ====
module

public import proofs.«01_k».proof.Proof.Tiles

@[expose] public section

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)

variable {F : FTy → Type} [FloatOps F]

local notation "𝕄" => MT nD τ sig Unit (Elt F) ℕ UU ℕ

variable (m : Mem0 F)

/-! ## The cells -/

/-- The semaphore of a shared cell. -/
def ksem : CI → SemLoc sig
  | .inl _ => .reg barS
  | .inr (.inl i) => .dma (sSem i)
  | .inr (.inr i) => .dma (vSem i)

/-- A shared cell is its semaphore on its device. -/
theorem kcell_eq (p : Dev nD × CI) : kcell p = ((p.1 : Thread nD τ), ksem p.2) := by
  obtain ⟨c, _ | _ | _⟩ := p <;> rfl

/-- Departures have semaphores of their own. -/
theorem sSem_inj {i j : I3} (h : sSem i = sSem j) : i = j := by
  have h1 := congrArg dec h
  rw [dec_s, dec_s] at h1
  exact congrArg Prod.snd (Option.some.inj h1)

/-- Arrivals have semaphores of their own. -/
theorem vSem_inj {i j : I3} (h : vSem i = vSem j) : i = j := by
  have h1 := congrArg dec h
  rw [dec_v, dec_v] at h1
  exact congrArg Prod.snd (Option.some.inj h1)

/-- No departure shares a semaphore with an arrival. -/
theorem sSem_ne_vSem (i j : I3) : sSem i ≠ vSem j := fun h => by
  have h1 := congrArg dec h
  rw [dec_s, dec_v] at h1
  exact absurd (congrArg Prod.fst (Option.some.inj h1)) Bool.false_ne_true

/-- Shared cells of a device have semaphores of their own. -/
theorem ksem_inj : Function.Injective ksem := by
  rintro (_ | i | i) (_ | j | j) h
  · rfl
  · exact absurd h (by intro h; cases h)
  · exact absurd h (by intro h; cases h)
  · exact absurd h (by intro h; cases h)
  · rw [sSem_inj (SemLoc.dma.inj h)]
  · exact absurd (SemLoc.dma.inj h) (sSem_ne_vSem i j)
  · exact absurd h (by intro h; cases h)
  · exact absurd (SemLoc.dma.inj h).symm (sSem_ne_vSem j i)
  · rw [vSem_inj (SemLoc.dma.inj h)]

/-- One semaphore on two devices is two cells. -/
theorem cell_inj {a b : Dev nD} {s s' : SemLoc sig} (h : (((a : Thread nD τ), s) : GSem nD τ sig) = ((b : Thread nD τ), s')) : a = b ∧ s = s' :=
  ⟨congrArg (fun g : GSem nD τ sig => g.1.1) h, congrArg Prod.snd h⟩

/-- The shared cells are different. -/
theorem kcell_inj : Function.Injective kcell := by
  intro p q h
  rw [kcell_eq, kcell_eq] at h
  exact Prod.ext (cell_inj h).1 (ksem_inj (cell_inj h).2)

/-- All the shared cells. -/
def ringCells : Finset (GSem nD τ sig) := Finset.univ.map ⟨kcell, kcell_inj⟩

/-- A device's duties: two on the barrier, one on each departure and one on each arrival. -/
abbrev TI : Type := Bool ⊕ (I3 ⊕ I3)

/-- The token of a duty. -/
def tokOf (p : Dev nD × TI) : GSem nD τ sig × ℕ × Bool :=
  match p.2 with
  | .inl d => (bCell p.1, 0, d)
  | .inr (.inl i) => (sCell p.1 i, 0, false)
  | .inr (.inr i) => (vCell p.1 i, 0, false)

/-- The cell of a duty. -/
def tcell : TI → CI
  | .inl _ => .inl ()
  | .inr x => .inr x

/-- A token belongs to its duty's cell. -/
theorem tokOf_fst (p : Dev nD × TI) : (tokOf p).1 = kcell (p.1, tcell p.2) := by
  obtain ⟨c, _ | _ | _⟩ := p <;> rfl

/-- The tokens are different. -/
theorem tokOf_inj : Function.Injective tokOf := by
  rintro ⟨c, x⟩ ⟨c', y⟩ h
  have h1 := congrArg Prod.fst h
  rw [tokOf_fst, tokOf_fst] at h1
  have h2 := kcell_inj h1
  have hc : c = c' := congrArg Prod.fst h2
  have hx : tcell x = tcell y := congrArg Prod.snd h2
  subst hc
  match x, y, hx with
  | .inl d, .inl d', _ =>
    have h3 : d = d' := congrArg (fun z : GSem nD τ sig × ℕ × Bool => z.2.2) h
    rw [h3]
  | .inl d, .inr y, hx => exact absurd hx (by intro h; cases h)
  | .inr x, .inl d, hx => exact absurd hx (by intro h; cases h)
  | .inr x, .inr y, hx => rw [Sum.inr.inj hx]

/-- All the tokens. -/
def ringToks : Finset (GSem nD τ sig × ℕ × Bool) := Finset.univ.map ⟨tokOf, tokOf_inj⟩

/-! ## The kernel's own semaphores -/

/-- The kernel's own semaphores: departures, arrivals, the loads, the weights and the products. -/
abbrev OI : Type := (I3 ⊕ I3) ⊕ (Bool ⊕ (Unit ⊕ I4))

/-- Equality of the cells of a device is decidable. -/
instance : DecidableEq OI := instDecidableEqSum

/-- An own semaphore. -/
def osem : OI → SemLoc sig
  | .inl (.inl i) => .dma (sSem i)
  | .inl (.inr i) => .dma (vSem i)
  | .inr (.inl d) => .dma (xS d)
  | .inr (.inr (.inl _)) => .dma cc0_scratch11.sem
  | .inr (.inr (.inr t)) => .dma (yS t.2.1 t.1 t.2.2)

/-- Which own semaphore one is. -/
def odec : SemLoc sig → Option OI
  | .reg _ => none
  | .dma q => match dec q with
    | some (false, i) => some (.inl (.inl i))
    | some (true, i) => some (.inl (.inr i))
    | none => if q.val = 130 then some (.inr (.inl false)) else if q.val = 131 then some (.inr (.inl true))
      else if q.val = 132 then some (.inr (.inr (.inl ())))
      else some (.inr (.inr (.inr (⟨(q.val - 133) / 16 % 4, Nat.mod_lt _ (by decide)⟩, (decide ((q.val - 133) % 2 = 1), ⟨(q.val - 133) % 16 / 2, by omega⟩)))))

/-- Own semaphores are recognised. -/
theorem odec_osem (k : OI) : odec (osem k) = some k := by
  have hx : ∀ d : Bool, odec (osem (.inr (.inl d))) = some (.inr (.inl d)) := by decide +kernel
  have hw : odec (osem (.inr (.inr (.inl ())))) = some (.inr (.inr (.inl ()))) := by decide +kernel
  have hy : ∀ t : I4, odec (osem (.inr (.inr (.inr t)))) = some (.inr (.inr (.inr t))) := by decide +kernel
  match k with
  | .inl (.inl i) => show (match dec (sSem i) with | some (false, i) => _ | some (true, i) => _ | none => _) = _; rw [dec_s]
  | .inl (.inr i) => show (match dec (vSem i) with | some (false, i) => _ | some (true, i) => _ | none => _) = _; rw [dec_v]
  | .inr (.inl d) => exact hx d
  | .inr (.inr (.inl ())) => exact hw
  | .inr (.inr (.inr t)) => exact hy t

/-- They are allocated for the kernel, different from each other and from the staging semaphores. -/
theorem ownSemFacts : Pipeline.OwnSemFacts spec0 osem where
  isScoped := by decide +kernel
  inj := fun k k' h => by
    have h1 := congrArg odec h
    rw [odec_osem, odec_osem] at h1
    exact Option.some.inj h1
  disj := by decide +kernel

/-- The own semaphores at zero, kind by kind. -/
theorem ownSems0_eq (c : Dev nD) : (Pipeline.ownSems0 (Ix := Unit) (Name := ℕ) (U := UU) (Lvl := ℕ) (Val := Elt F) (τ := τ) osem c : sProp 𝕄)
    = iprop(((bigSep Finset.univ fun i : I3 => semVal (sCell c i) 0) ∗ bigSep Finset.univ fun i : I3 => semVal (vCell c i) 0)
        ∗ (semVal ((c : Thread nD τ), .dma (xS false)) 0 ∗ semVal ((c : Thread nD τ), .dma (xS true)) 0)
        ∗ semVal ((c : Thread nD τ), .dma cc0_scratch11.sem) 0
        ∗ bigSep Finset.univ fun t : I4 => semVal ((c : Thread nD τ), .dma (yS t.2.1 t.1 t.2.2)) 0) := by
  unfold Pipeline.ownSems0
  rw [bigSep_univ_sum, bigSep_univ_sum, bigSep_univ_sum, bigSep_univ_sum,
    bigSep_univ_eq_bigSepL [false, true] (by decide) (by decide), bigSepL_cons_cons, bigSepL_singleton,
    bigSep_univ_eq_bigSepL [()] (by decide) (by decide), bigSepL_singleton]
  rfl

/-- The barrier semaphore is the one that outlives the kernel. -/
theorem unscopedSems0_eq (c : Dev nD) : (unscopedSems0 c : sProp 𝕄) = semVal (bCell c) 0 := by
  unfold unscopedSems0; rw [bigSep_eq_bigSepL_of_eq [SemLoc.reg barS] (by decide +kernel) (by decide +kernel)]; rfl

/-- Everything over the shared cells of a device, kind by kind. -/
theorem over_cells (Φ : CI → sProp 𝕄) : bigSep Finset.univ Φ
    = iprop(Φ (.inl ()) ∗ (bigSep Finset.univ fun i : I3 => Φ (.inr (.inl i))) ∗ bigSep Finset.univ fun i : I3 => Φ (.inr (.inr i))) := by
  rw [bigSep_univ_sum, bigSep_univ_sum, bigSep_univ_eq_bigSepL [()] (by decide) (by decide), bigSepL_singleton]
  rfl

/-! ## The ghost state -/

/-- The launch's ghost element: the pipeline's rounds, the shared cells' rounds, and no counter. -/
def u₀ : UU := (initOf (Pipeline.cells cfgs cellOf_inj) (Pipeline.launchToks cfgs cellOf_inj), (initOf ringCells ringToks, 1))

/-- A device's tokens as they are made, on its own cells. -/
def madeToks (c : Dev nD) : sProp 𝕄 :=
  iprop((dutyTok ER (bCell c) 0 false ∗ dutyTok ER (bCell c) 0 true)
    ∗ (bigSep Finset.univ fun i : I3 => dutyTok ER (sCell c i) 0 false) ∗ bigSep Finset.univ fun i : I3 => dutyTok ER (vCell c i) 0 false)

/-- What a device is dealt: its cells' rounds, where they stand, and their tokens. -/
def G (c : Dev nD) : sProp 𝕄 :=
  iprop((bigSep Finset.univ fun k : CI => roundState ER (Rd m) (kcell (c, k)) 0)
    ∗ (bigSep Finset.univ fun k : CI => iprop(atPos ER (kcell (c, k)) 0 ∅ 0 ∗ reached ER (kcell (c, k)) 0)) ∗ madeToks c)

/-- The ghost element makes what every device is dealt. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => madeToks c := by
    unfold ringToks; rw [bigSep_map, bigSep_univ_prod]
    refine bigSep_congr fun c _ => ?_
    unfold madeToks
    rw [bigSep_univ_sum, bigSep_univ_sum, bigSep_univ_eq_bigSepL [false, true] (by decide) (by decide), bigSepL_cons_cons, bigSepL_singleton]
    rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The semaphores no two devices share, at zero. -/
def freeSems (c : Dev nD) : sProp 𝕄 :=
  iprop((semVal ((c : Thread nD τ), .dma (xS false)) 0 ∗ semVal ((c : Thread nD τ), .dma (xS true)) 0)
    ∗ semVal ((c : Thread nD τ), .dma cc0_scratch11.sem) 0
    ∗ bigSep Finset.univ fun t : I4 => semVal ((c : Thread nD τ), .dma (yS t.2.1 t.1 t.2.2)) 0)

/-- The semaphores of a device: the shared ones and the others. -/
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : CI => semVal (kcell (c, k)) 0) ∗ freeSems c) : sProp 𝕄) := by
  rw [ownSems0_eq, unscopedSems0_eq, over_cells]
  unfold freeSems
  iintro ⟨⟨⟨HS, HV⟩, HF⟩, HB⟩
  iframe HF
  isplitl [HB]; · iexact HB
  isplitl [HS] ; · iexact HS
  iexact HV

/-- A device's cells are put under their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ madeToks c ∗ freeSems c) := by
  unfold G
  iintro ⟨Hos, Hus, Hst, Hat, Htok⟩
  ihave Hv := (sems0_eq (F := F) c) $$ [Hos Hus]
  · isplitl [Hos] <;> iassumption
  icases Hv with ⟨Hv, Hf⟩
  imod (show iprop((bigSep Finset.univ fun k : CI => semVal (kcell (c, k)) 0) ∗ bigSep Finset.univ fun k : CI => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  isplitl [Htok]; · iexact Htok
  iexact Hf

/-- The tokens a device pays with. -/
def payToks (c : Dev nD) : sProp 𝕄 :=
  iprop((dutyTok ER (bCell (nbr true c)) 0 false ∗ dutyTok ER (bCell (nbr false c)) 0 true) ∗ bigSep Finset.univ (toks c))

/-- What a device holds alone of the ghost state. -/
def linear (c : Dev nD) : sProp 𝕄 :=
  iprop((atPos ER (bCell c) 0 ∅ 0 ∗ bigSep Finset.univ (sAt c 0) ∗ bigSep Finset.univ (vAt c 0)) ∗ payToks c ∗ freeSems c)

/-- What a device starts the kernel with, of the ghost state. -/
def G' (c : Dev nD) : sProp 𝕄 := iprop(∃ K, records m K ∗ linear c)

/-- The arrival tokens go to the devices that send. -/
theorem vToks_around : (bigSep Finset.univ fun c : Dev nD => bigSep Finset.univ fun i : I3 => (dutyTok ER (vCell c i) 0 false : sProp 𝕄))
    ⊢ bigSep Finset.univ fun c : Dev nD => bigSep Finset.univ fun i : I3 => dutyTok ER (vCell (nbr i.2.1 c) i) 0 false := by
  rw [bigSep_univ_comm, bigSep_univ_comm (fun (c : Dev nD) (i : I3) => (dutyTok ER (vCell (nbr i.2.1 c) i) 0 false : sProp 𝕄))]
  exact bigSep_mono fun i _ => Entails.of_eq (bigSep_univ_equiv (ring i.2.1) (fun c : Dev nD => (dutyTok ER (vCell c i) 0 false : sProp 𝕄)))

/-- The tokens are dealt round the ring. -/
theorem toks_around : (bigSep Finset.univ fun c : Dev nD => (madeToks c : sProp 𝕄)) ⊢ bigSep Finset.univ fun c : Dev nD => payToks c := by
  unfold madeToks payToks toks
  simp only [bigSep_sep']
  rw [bigSep_univ_equiv (ring true) (fun c : Dev nD => (dutyTok ER (bCell c) 0 false : sProp 𝕄)),
    bigSep_univ_equiv (ring false) (fun c : Dev nD => (dutyTok ER (bCell c) 0 true : sProp 𝕄))]
  iintro ⟨⟨H1, H2⟩, H3, H4⟩
  isplitl [H1 H2]
  · isplitl [H1]; · iexact H1
    iexact H2
  isplitl [H3]; · iexact H3
  iapply (vToks_around (F := F)) $$ H4

/-- What all share goes to each. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Where a device's cells stand, kind by kind. -/
theorem at_eq (c : Dev nD) : (bigSep Finset.univ fun k : CI => (atPos ER (kcell (c, k)) 0 ∅ 0 : sProp 𝕄))
    = iprop(atPos ER (bCell c) 0 ∅ 0 ∗ bigSep Finset.univ (sAt c 0) ∗ bigSep Finset.univ (vAt c 0)) := over_cells _

/-- The devices' shares are put together and dealt anew. -/
theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ madeToks c ∗ freeSems c) : sProp 𝕄)
      ⊢ bigSep Finset.univ (G' m) := by
  rw [bigSep_sep', bigSep_sep', bigSep_sep', ← bigSep_univ_prod (fun ck : Dev nD × CI => iprop(∃ κ : ℕ, cellInv ER (Rd m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok, Hf⟩
  ihave HK := (BI.bigSep_exists_pi Finset.univ (fun (ck : Dev nD × CI) (κ : ℕ) => (cellInv ER (Rd m) κ (kcell ck) : sProp 𝕄))) $$ HI
  icases HK with ⟨%K, #HI⟩
  ihave Htk := (toks_around (F := F)) $$ Htok
  have hg (c : Dev nD) : iprop(records m K ∗ linear c) ⊢ G' m c := by
    unfold G'
    iintro H; iexists K; iexact H
  iapply (with_persistent (S := Finset.univ) (R := records m K) (Φ := linear) (Ψ := G' m) fun c _ => hg c)
  isplitr
  · unfold records; isplitl; · iexact HI
    iexact HR
  · have hl : iprop((bigSep Finset.univ fun c : Dev nD => bigSep Finset.univ fun k : CI => (atPos ER (kcell (c, k)) 0 ∅ 0 : sProp 𝕄))
        ∗ (bigSep Finset.univ fun c : Dev nD => payToks c) ∗ bigSep Finset.univ fun c : Dev nD => freeSems c) ⊢ bigSep Finset.univ (linear (F := F)) := by
      rw [← bigSep_sep', ← bigSep_sep']
      exact bigSep_mono fun c _ => (show iprop((bigSep Finset.univ fun k : CI => (atPos ER (kcell (c, k)) 0 ∅ 0 : sProp 𝕄)) ∗ payToks c ∗ freeSems c) ⊢ linear c from by
        unfold linear; rw [at_eq])
    iapply hl
    isplitl [Hat]; · iexact Hat
    isplitl [Htk]; · iexact Htk
    iexact Hf

/-- The step at launch, over all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.Run
-- ==== Proof.Credit.lean ====
module

public import proofs.«01_k».proof.Proof.Ghost

@[expose] public section

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)

variable {F : FTy → Type} [FloatOps F]

local notation "𝕄" => MT nD τ sig Unit (Elt F) ℕ UU ℕ

variable (m : Mem0 F)

/-! ## What a device is owed at launch -/

/-- Two arrival cells are one only if device and transfer agree. -/
theorem vCell_inj {a b : Dev nD} {i j : I3} (h : vCell a i = vCell b j) : a = b ∧ i = j :=
  ⟨(cell_inj h).1, vSem_inj (SemLoc.dma.inj (cell_inj h).2)⟩

/-- No arrival cell is a barrier cell. -/
theorem vCell_ne (a b : Dev nD) (i : I3) (h : vCell a i = bCell b) : False := by
  have h1 := (cell_inj h).2
  cases h1

/-- What is owed for a hop, at an arrival cell. -/
theorem tl_v (d c : Dev nD) (h : Fin 3) (i : I3) : ∀ l : List (Bool × Fin 8), l.Nodup →
    tl d h l (vCell c i) () = if (i.1 = h ∧ i.2 ∈ l) ∧ d = nbr (!i.2.1) c then N else 0
  | [], _ => by
    rw [if_neg (fun hh => absurd hh.1.2 (List.not_mem_nil))]; rfl
  | p :: l, hl => by
    show (tl d h l + tallyAt (vCell (nbr p.1 d) (h, p)) () N) (vCell c i) () = _
    rw [Pi.add_apply, Finsupp.add_apply, tl_v d c h i l (List.nodup_cons.mp hl).2, tallyAt_apply]
    by_cases hp : i.2 = p
    · have h1 : i.2 ∉ l := fun hm => (List.nodup_cons.mp hl).1 (hp ▸ hm)
      rw [if_neg (fun hh => h1 hh.1.2), Nat.zero_add]
      by_cases hh : (i.1 = h ∧ i.2 ∈ p :: l) ∧ d = nbr (!i.2.1) c
      · have hi : i = (h, p) := Prod.ext hh.1.1 hp
        have hc : vCell c i = vCell (nbr p.1 d) (h, p) := by rw [hh.2, ← hp, nbr_forth, hi, ← hp]
        rw [if_pos hh, if_pos ⟨hc, rfl⟩]
      · rw [if_neg hh, if_neg]
        rintro ⟨hc, -⟩
        have hv := vCell_inj hc
        have hi : i = (h, p) := hv.2
        refine hh ⟨⟨congrArg Prod.fst hi, hp ▸ List.mem_cons_self⟩, ?_⟩
        rw [hv.1, hp, nbr_back]
    · rw [if_neg (c := vCell c i = vCell (nbr p.1 d) (h, p) ∧ () = ()) (fun hh => hp (congrArg Prod.snd (vCell_inj hh.1).2)), Nat.add_zero]
      refine if_congr (and_congr_left' (and_congr_right' ?_)) rfl rfl
      exact ⟨fun hm => List.mem_cons_of_mem _ hm, fun hm => (List.mem_cons.mp hm).resolve_left hp⟩

/-- What is owed for a hop, at a barrier cell: nothing. -/
theorem tl_b (d c : Dev nD) (h : Fin 3) : ∀ l : List (Bool × Fin 8), tl d h l (bCell c) () = 0
  | [] => rfl
  | p :: l => by
    show (tl d h l + tallyAt (vCell (nbr p.1 d) (h, p)) () N) (bCell c) () = _
    rw [Pi.add_apply, Finsupp.add_apply, tl_b d c h l, tallyAt_apply, if_neg (fun hh => vCell_ne _ _ _ hh.1.symm)]

/-- Two barrier cells are one only if the devices agree. -/
theorem bCell_inj {a b : Dev nD} (h : bCell a = bCell b) : a = b := (cell_inj h).1

/-- A neighbour's neighbour back is the device itself. -/
theorem nbr_iff (d : Bool) (a c : Dev nD) : c = nbr d a ↔ a = nbr (!d) c :=
  ⟨fun h => by rw [h, nbr_back], fun h => by rw [h, nbr_forth]⟩

/-- What a device owes another's barrier: one signal to each neighbour. -/
theorem owed_b (d c : Dev nD) : O₀ d (bCell c) () = (if d = nbr true c then 1 else 0) + (if d = nbr false c then 1 else 0) := by
  unfold O₀ O₁ O₂
  simp only [Pi.add_apply, Finsupp.add_apply, tl_b, tallyAt_apply, Nat.zero_add, and_true]
  congr 1
  · exact if_congr ⟨fun h => (nbr_iff false d c).mp (bCell_inj h), fun h => by rw [(nbr_iff false d c).mpr h]⟩ rfl rfl
  · exact if_congr ⟨fun h => (nbr_iff true d c).mp (bCell_inj h), fun h => by rw [(nbr_iff true d c).mpr h]⟩ rfl rfl

/-- Every sub-block is on the list, once. -/
theorem mem_subs : ∀ p : Bool × Fin 8, p ∈ subs := by decide +kernel
/-- No sub-block is on the list twice. -/
theorem subs_nodup : subs.Nodup := by decide +kernel

/-- What a device owes an arrival: the transfer, if it is the neighbour that sends it. -/
theorem owed_v (d c : Dev nD) (i : I3) : O₀ d (vCell c i) () = if d = nbr (!i.2.1) c then N else 0 := by
  have hb (a : Dev nD) (n : ℕ) : (tallyAt (bCell a) () n : CellTallies nD τ sig Unit) (vCell c i) () = 0 := by
    rw [tallyAt_apply, if_neg (fun hh => vCell_ne _ _ _ hh.1)]
  unfold O₀ O₁ O₂
  simp only [Pi.add_apply, Finsupp.add_apply, hb, tl_v d c _ i subs subs_nodup, Nat.add_zero, mem_subs, and_true]
  have h3 : ∀ x : Fin 3, x = 0 ∨ x = 1 ∨ x = 2 := by decide
  rcases h3 i.1 with h | h | h <;> rw [h] <;> simp

/-- A barrier is owed two signals. -/
theorem launch_b (c : Dev nD) :
    tallyOn (bCell c) (launchCredit (Pipeline.owing O₀) 0 (bCell c)) = (tallyAt (bCell c) () 2 : CellTallies nD τ sig Unit) := by
  unfold tallyAt; refine congrArg _ (Finsupp.ext fun u => ?_); cases u
  rw [Pipeline.launchCredit_owing, Finsupp.single_eq_same, Finset.sum_congr rfl fun d _ => owed_b d c, Finset.sum_add_distrib,
    Finset.sum_ite_eq' Finset.univ (nbr true c) fun _ => 1, Finset.sum_ite_eq' Finset.univ (nbr false c) fun _ => 1, if_pos (Finset.mem_univ _), if_pos (Finset.mem_univ _)]

/-- An arrival is owed one transfer. -/
theorem launch_v (c : Dev nD) (i : I3) :
    tallyOn (vCell c i) (launchCredit (Pipeline.owing O₀) 0 (vCell c i)) = (tallyAt (vCell c i) () N : CellTallies nD τ sig Unit) := by
  unfold tallyAt; refine congrArg _ (Finsupp.ext fun u => ?_); cases u
  rw [Pipeline.launchCredit_owing, Finsupp.single_eq_same, Finset.sum_congr rfl fun d _ => owed_v d c i,
    Finset.sum_ite_eq' Finset.univ (nbr (!i.2.1) c) fun _ => N, if_pos (Finset.mem_univ _)]

/-- The semaphores a device waits on for others: the barrier and the arrivals. -/
def csem : Unit ⊕ I3 → SemLoc sig
  | .inl _ => .reg barS
  | .inr i => .dma (vSem i)

/-- They are different. -/
theorem csem_inj : Function.Injective csem := by
  rintro (_ | i) (_ | j) h
  · rfl
  · exact absurd h (by intro h; cases h)
  · exact absurd h (by intro h; cases h)
  · rw [vSem_inj (SemLoc.dma.inj h)]

/-- The credits a device begins with. -/
theorem creds (c : Dev nD) :
    (Pipeline.launchCred O₀ c : sProp 𝕄) ⊢ iprop(cred (tallyAt (bCell c) () 2) ∗ bigSep Finset.univ (vCred c)) := by
  have h1 : (Pipeline.launchCred O₀ c : sProp 𝕄)
      ⊢ bigSep Finset.univ fun k : Unit ⊕ I3 => cred (tallyOn ((c : Thread nD τ), csem k) (launchCredit (Pipeline.owing O₀) 0 ((c : Thread nD τ), csem k))) := by
    have h2 : (Pipeline.launchCred O₀ c : sProp 𝕄) = iprop(bigSep (Finset.univ.map ⟨csem, csem_inj⟩) (fun sm => cred (tallyOn ((c : Thread nD τ), sm) (launchCredit (Pipeline.owing O₀) 0 ((c : Thread nD τ), sm))))
        ∗ bigSep (Finset.univ \ Finset.univ.map ⟨csem, csem_inj⟩) (fun sm => cred (tallyOn ((c : Thread nD τ), sm) (launchCredit (Pipeline.owing O₀) 0 ((c : Thread nD τ), sm))))) := by
      unfold Pipeline.launchCred
      exact bigSep_sdiff_split (Finset.subset_univ _)
    rw [h2, bigSep_map]
    iintro ⟨H, -⟩
    iexact H
  have h2 (k : Unit ⊕ I3) : (cred (tallyOn ((c : Thread nD τ), csem k) (launchCredit (Pipeline.owing O₀) 0 ((c : Thread nD τ), csem k))) : sProp 𝕄)
      = Sum.elim (fun _ => cred (tallyAt (bCell c) () 2)) (vCred c) k := by
    rcases k with _ | i
    · exact congrArg (fun x => (cred x : sProp 𝕄)) (launch_b c)
    · exact congrArg (fun x => (cred x : sProp 𝕄)) (launch_v c i)
  refine h1.trans ?_
  rw [bigSep_congr (s := Finset.univ) fun k _ => h2 k, bigSep_univ_sum, bigSep_univ_eq_bigSepL [()] (by decide) (by decide), bigSepL_singleton]
  exact Entails.rfl

/-! ## The proof data of the launch -/

/-- The scale of `x` as a device stages it. -/
def stgA (c : Dev nD) : (cc0_stg0_0 : Ref sig .tc).ty.Contents (Elt F) :=
  (win0_0.blk (0 : Fin 1)).view.read (Elt F) (m ((c : Thread nD τ).loc main_arg2))
/-- The scale of the weights as a device stages it. -/
def stgB (c : Dev nD) : (cc0_stg1_0 : Ref sig .tc).ty.Contents (Elt F) :=
  (win0_1.blk (0 : Fin 1)).view.read (Elt F) (m ((c : Thread nD τ).loc main_arg3))
/-- The product of the scales of a device. -/
def scale (c : Dev nD) : F .f32 := sv (stgA m c) (stgB m c)

/-- What a device starts from. -/
def start (c : Dev nD) : sProp 𝕄 :=
  iprop(G' m c ∗ (cred (tallyAt (bCell c) () 2) ∗ bigSep Finset.univ (vCred c)) ∗ levAts L lv
    ∗ ((c : Thread nD τ).loc main_arg0 ↦{fullShare} m ((c : Thread nD τ).loc main_arg0))
    ∗ ((c : Thread nD τ).loc main_arg1 ↦{fullShare} m ((c : Thread nD τ).loc main_arg1))
    ∗ ((c : Thread nD τ).loc main_v1 ↦{fullShare} m ((c : Thread nD τ).loc main_v1)))

/-- What a device leaves to be read. -/
def result (c : Dev nD) : sProp 𝕄 :=
  iprop(unscopedSems0 c
    ∗ ((c : Thread nD τ).loc main_arg0 ↦{fullShare} m ((c : Thread nD τ).loc main_arg0))
    ∗ ((c : Thread nD τ).loc main_arg1 ↦{fullShare} m ((c : Thread nD τ).loc main_arg1))
    ∗ ((c : Thread nD τ).loc main_v1 ↦{fullShare} outF m (scale m c) c))

/-- Before the kernel's one point. -/
def Φ₀ (c : Dev nD) : sProp 𝕄 := iprop(start m c ∗ Pipeline.scopedRest spec0 c)
/-- After it. -/
def Φ₁ (c : Dev nD) : sProp 𝕄 :=
  iprop(result m c ∗ Pipeline.ownSems0 (Ix := Unit) (Name := ℕ) (U := UU) (Lvl := ℕ) (Val := Elt F) (τ := τ) osem c ∗ Pipeline.scopedRest spec0 c)

/-- The proof data of the launch. -/
def dats (_ : Fin 1) (c : Dev nD) : Dat τ (Elt F) Unit ℕ UU ℕ (cfgs 0) c where
  A w := m (((cfgs 0).win w).arr.view.loc (c : Thread nD τ))
  after w _ := match w with
    | ⟨0, _⟩ => stgA m c
    | ⟨1, _⟩ => stgB m c
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.Run
-- ==== Proof.Point.lean ====
module

public import proofs.«01_k».proof.Proof.Body
public import proofs.«01_k».proof.Proof.Credit
public import proofs.«01_k».proof.Proof.Gen.KernelIdeal.Points
public import Idealize.ShloMosaic.Lib.Pipeline.CollectiveSegs

@[expose] public section

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)

variable {F : FTy → Type} [FloatOps F]

local notation "𝕄" => MT nD τ sig Unit (Elt F) ℕ UU ℕ

variable (m : Mem0 F)

/-! ## The kernel's one point -/

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- A whole buffer owned is the buffer at its contents. -/
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- Both windows are fetched. -/
theorem fetched (t : Fin (cfgs 0).N) (w : Fin 2) : ((cfgs 0).win w).fetch t = true := by
  rw [fin_N0 t]; revert w; decide

/-- The last round of a cell is over: its semaphore is at zero. -/
theorem close (K : Dev nD × CI → ℕ) (p : Dev nD × CI) :
    iprop(records m K ∗ atPos ER (kcell p) (0 + 1) ∅ 0) ⊢ (|={Set.univ}=> semVal (kcell p) 0 : sProp 𝕄) := by
  iintro ⟨#HR, H⟩
  ihave HI := (record_at m K p) $$ HR
  icases HI with ⟨HI, -⟩
  iapply (Rounds.cell_close ER (Rd m) (Set.mem_univ (K p)) (fun h => h) (R := 0 + 1) (duties_later m (kcell p)))
  isplitl [HI]; · iexact HI
  iexact H

/-- All of a device's shared cells are over. -/
theorem close_all (K : Dev nD × CI → ℕ) (c : Dev nD) :
    iprop(records m K ∗ atPos ER (bCell c) (0 + 1) ∅ 0 ∗ bigSep Finset.univ (sAt c (0 + 1)) ∗ bigSep Finset.univ (vAt c (0 + 1)))
      ⊢ (|={Set.univ}=> iprop(semVal (bCell c) 0 ∗ (bigSep Finset.univ fun i : I3 => semVal (sCell c i) 0) ∗ bigSep Finset.univ fun i : I3 => semVal (vCell c i) 0) : sProp 𝕄) := by
  have h1 := over_cells (F := F) (fun k : CI => atPos ER (kcell (c, k)) (0 + 1) ∅ 0)
  have h2 := over_cells (F := F) (fun k : CI => semVal (kcell (c, k)) 0)
  have h3 : iprop(records m K ∗ bigSep Finset.univ fun k : CI => (atPos ER (kcell (c, k)) (0 + 1) ∅ 0 : sProp 𝕄))
      ⊢ (|={Set.univ}=> bigSep Finset.univ fun k : CI => semVal (kcell (c, k)) 0 : sProp 𝕄) :=
    (with_persistent (S := Finset.univ) (R := records m K) (Φ := fun k : CI => (atPos ER (kcell (c, k)) (0 + 1) ∅ 0 : sProp 𝕄))
      (Ψ := fun k : CI => (iprop(|={Set.univ}=> semVal (kcell (c, k)) 0) : sProp 𝕄)) fun k _ => close m K (c, k)).trans (bigSep_fupd _ _)
  rw [h1, h2] at h3
  exact h3

/-- What the body is handed. -/
def bodyPre (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

/-- What the body hands back. -/
def bodyPost (c : Dev nD) : sProp 𝕄 :=
  iprop(Φ₁ m c ∗ (dats m 0 c).owesAt () t0_0.succ ∗ stg c cc0_stg0_0 (stgA m c) ∗ stg c cc0_stg1_0 (stgB m c))

/-- The rows of `x` are read through two half shares. -/
theorem x_halves (c : Dev nD) : (((c : Thread nD τ).loc main_arg0 ↦{fullShare} m ((c : Thread nD τ).loc main_arg0)) : sProp 𝕄)
    ⊣⊢ iprop(xPts m c false ∗ xPts m c true) := pointsTo_share (PosShare.mem_left_op_right fullShare)

/-- What a device starts from is what its body needs. -/
theorem start_body (c : Dev nD) :
    bodyPre m c ⊢ iprop(∃ K, records m K ∗ bodyStart m K c (stgA m c) (stgB m c)) := by
  unfold bodyPre Φ₀ start G' linear freeSems payToks Dat.owesAt Pipeline.owesWithin bodyStart ow
  rw [scopedRest0_eq]
  iintro ⟨⟨⟨⟨%K, #HR, ⟨Hb, Hs, Hv⟩, ⟨⟨Ht1, Ht2⟩, Ht⟩, ⟨Hx0, Hx1⟩, Hw, Hy⟩, ⟨Hc1, Hc2⟩, #Hl, Ha0, Ha1, Hv1⟩, S0, S1, S2, S3, S4, S5⟩, ⟨%W, %hW, HO⟩,
    ⟨%d0, %g0, %hg0, HA⟩, ⟨%d1, %g1, %hg1, HB⟩⟩
  have e0 : g0 = stgA m c := by rw [hg0]; unfold Dat.before; rw [if_pos (fetched t0_0 0)]; rfl
  have e1 : g1 = stgB m c := by rw [hg1]; unfold Dat.before; rw [if_pos (fetched t0_0 1)]; rfl
  subst e0
  subst e1
  ihave Hx := (x_halves m c).1 $$ Ha0
  icases Hx with ⟨HxL, HxR⟩
  ihave HS := (stage_split (F := F) c) $$ S2
  icases HS with ⟨HSL, HSR⟩
  ihave HP := (pieces_split (F := F) c) $$ [S0 S1]
  · isplitl [S0]; · iexact S0
    iexact S1
  ihave HY := (y_split m c) $$ [S5 Hv1 Hy]
  · isplitl [S5]; · iexact S5
    isplitl [Hv1]; · iexact Hv1
    iexact Hy
  iexists K
  isplitr; · iexact HR
  isplitr; · iexact HR
  isplitr; · iexact Hl
  isplitl [HO]; · iexists W; iexact HO
  isplitl [HxL HxR HSL HSR Hx0 Hx1]
  · unfold stageSt
    isplitl [HxL HSL Hx0]
    · isplitl [HxL]; · iexact HxL
      isplitl [HSL]; · iexact HSL
      iexact Hx0
    · isplitl [HxR]; · iexact HxR
      isplitl [HSR]; · iexact HSR
      iexact Hx1
  isplitl [Ha1]; · iexact Ha1
  isplitl [S3]; · iexact S3
  isplitl [S4]; · iexact S4
  isplitl [Hw]; · iexact Hw
  isplitl [HA HB]
  · isplitl [HA]; · iexact HA
    iexact HB
  isplitl [HP]; · iexact HP
  isplitl [HY]; · iexact HY
  isplitl [Hb]; · iexact Hb
  isplitl [Hs]; · iexact Hs
  isplitl [Hv]; · iexact Hv
  isplitl [Hc1]; · iexact Hc1
  isplitl [Hc2]; · iexact Hc2
  isplitl [Ht1]; · iexact Ht1
  isplitl [Ht2]; · iexact Ht2
  iexact Ht

/-- What the body ends with is what a device leaves. -/
theorem end_body (K : Dev nD × CI → ℕ) (c : Dev nD) :
    iprop(records m K ∗ bodyEnd m c (stgA m c) (stgB m c)) ⊢ (|={Set.univ}=> bodyPost m c : sProp 𝕄) := by
  unfold bodyEnd ow
  iintro ⟨#HR, HO, ⟨HstL, HstR⟩, Ha1, S3, S4, Hw, ⟨HA, HB⟩, HP, HY, Hb, Hs, Hv⟩
  imod (close_all m K c) $$ [Hb Hs Hv] with ⟨Hb, Hs, Hv⟩
  · isplitr; · iexact HR
    isplitl [Hb]; · iexact Hb
    isplitl [Hs]; · iexact Hs
    iexact Hv
  imodintro
  unfold stageSt
  icases HstL with ⟨HxL, HSL, Hx0⟩
  icases HstR with ⟨HxR, HSR, Hx1⟩
  ihave Ha0 := (x_halves m c).2 $$ [HxL HxR]
  · isplitl [HxL]; · iexact HxL
    iexact HxR
  ihave S2 := (stage_join m c) $$ [HSL HSR]
  · isplitl [HSL]; · iexact HSL
    iexact HSR
  ihave HP := (pieces_join m c) $$ HP
  icases HP with ⟨S0, S1⟩
  ihave HY := (y_join m c (sv (stgA m c) (stgB m c))) $$ HY
  icases HY with ⟨S5, Hv1, Hy⟩
  unfold bodyPost Φ₁ result Dat.owesAt Pipeline.owesWithin
  rw [ownSems0_eq, unscopedSems0_eq, scopedRest0_eq]
  icases HO with ⟨%W, HO⟩
  isplitl [Ha0 Ha1 Hb Hs Hv S0 S1 S2 S3 S4 S5 Hx0 Hx1 Hw Hv1 Hy]
  · isplitl [Ha0 Ha1 Hb Hv1]
    · isplitl [Hb]; · iexact Hb
      isplitl [Ha0]; · iexact Ha0
      isplitl [Ha1]; · iexact Ha1
      iexact Hv1
    isplitl [Hs Hv Hx0 Hx1 Hw Hy]
    · isplitl [Hs Hv]
      · isplitl [Hs]; · iexact Hs
        iexact Hv
      isplitl [Hx0 Hx1]
      · isplitl [Hx0]; · iexact Hx0
        iexact Hx1
      isplitl [Hw]; · iexact Hw
      iexact Hy
    isplitl [S0]; · iexact S0
    isplitl [S1]; · iexact S1
    isplitl [S2]; · iexact S2
    isplitl [S3]; · iexact S3
    isplitl [S4]
    · unfold wPts; iexists _; iexact S4
    iexact S5
  isplitl [HO]
  · iexists W
    isplitr; · ipureintro; exact fun _ _ => Or.inl trivial
    iexact HO
  isplitl [HA]
  · iexists _; isplitr; · (ipureintro; rfl)
    iexact HA
  iexists _; isplitr; · (ipureintro; rfl)
  iexact HB

/-- The body runs from the one to the other. -/
theorem body_run (c : Dev nD) : bodyPre m c ⊢ Runs c (sBody (F := F)) (fun _ => bodyPost m c) := by
  refine BIBase.Entails.trans ?_ (wp_fupd frame (wpE (defs₀ (F := F)) 𝒱₀ (c : Thread nD τ) none) Set.univ _ _)
  iintro H
  ihave H := (start_body m c) $$ H
  icases H with ⟨%K, #HR, H⟩
  iapply (wp_sBody m K c (stgA m c) (stgB m c)) $$ H
  iintro H
  iapply (end_body m K c)
  isplitr; · iexact HR
  iexact H

attribute [local irreducible] cc0_body in
set_option maxRecDepth 8000 in
/-- The pipeline's obligation for the body. -/
theorem body_obligation (c : Dev nD) : BodyObligation (dats (F := F) m 0 c) (defs₀ (F := F)) 𝒱₀ () Set.univ := fun t => by
  rw [fin_N0 t]
  rw [bigSep_W0, bigSep_W0]
  simp only [owns_stg]
  show bodyPre m c ⊢ wp frame (wpE (defs₀ (F := F)) 𝒱₀ (c : Thread nD τ) none) Set.univ (bodyAt0 (F := F) t0_0) (fun _ => bodyPost m c)
  have e : bodyAt0 (F := F) t0_0 = sBody := body_eq
  rw [e]
  exact body_run m c

/-! ## The launch's side conditions -/

/-- A device owes only above the level of the local cells. -/
theorem O₀_above (c : Dev nD) : Above 0 (O₀ c) :=
  ((O₂_above c).add (Above.tally (by rw [lv_b]; decide))).add (Above.tally (by rw [lv_b]; decide))

/-- The staging semaphores are no shared cells. -/
theorem stage_dec : ∀ (w : Fin 2) (s : Fin ((cfgs 0).win w).nbuf), dec (((cfgs 0).win w).sem s) = none := by
  intro w s; fin_cases w <;> fin_cases s <;> rfl

/-- A device may wait on its staging semaphores. -/
theorem waits (c : Dev nD) : (levAts L lv : sProp 𝕄) ⊢ Pipeline.cellsWaits cfgs (dats m) () 0 c :=
  Pipeline.cellsWaits_intro cfgs (dats m) () 0 c fun w s t =>
    mayWait 0 c _ _ (lv_none c (stage_dec w s)) (by
      rcases t with ⟨_ | _, ht⟩
      · exact O₀_above c
      · exact Above.zero 0)

/-- Every window is held whole. -/
theorem share_eq (c : Dev nD) (w : Fin 2) : (dats m 0 c).share w = fullShare := by unfold Dat.share; split <;> rfl

variable (g : Dev nD → PrngReg)

/-- What a device has at launch is what it starts from. -/
theorem start_intro (c : Dev nD) :
    iprop(Pipeline.unscopedRestP Pipeline.Prefetch.none spec0 c (fun b => m ((c : Thread nD τ).loc b)) ∗ levAts L lv
        ∗ Pipeline.launchCred O₀ c ∗ prngReg c (g c) ∗ G' m c)
      ⊢ |={Set.univ}=> iprop(start m c ∗ emp) := by
  rw [Pipeline.unscopedRestP_none, unscopedRest0_eq]
  iintro ⟨⟨H0, H1, H2⟩, Hlev, Hcr, -, HG⟩
  ihave Hc := (creds (F := F) c) $$ Hcr
  imodintro
  unfold start
  isplitl
  · isplitl [HG]; · iexact HG
    isplitl [Hc]; · iexact Hc
    isplitl [Hlev]; · iexact Hlev
    isplitl [H0]; · iexact H0
    isplitl [H1]; · iexact H1
    iexact H2
  · iempintro

/-- The scratch joins at the start. -/
theorem phi0_intro (c : Dev nD) :
    iprop(start m c ∗ Pipeline.prefHeld Pipeline.Prefetch.none c (fun _ => fullShare.right) (fun k => k.elim0) ∗ Pipeline.scopedRest spec0 c)
      ⊢ (dats m 0 c).Φ 0 := by
  show _ ⊢ Φ₀ m c
  unfold Φ₀
  iintro ⟨Hs, -, HS⟩
  isplitl [Hs]; · iexact Hs
  iexact HS

/-- The end gives back the semaphores and the scratch. -/
theorem phi1_exit (c : Dev nD) :
    (dats m 0 c).Φ (Fin.last (cfgs 0).N) ⊢ iprop(result m c ∗ Pipeline.ownSems0 osem c ∗ Pipeline.scopedRest spec0 c) :=
  BIBase.Entails.rfl

/-- What can be read of a device at the end: its arrays, and its barrier counter. -/
def Final (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = outF m (scale m c) c)
  ∧ ∀ sm : SemLoc sig, sm.isScoped .tc = false → s.sem ((c.tc : Thread nD τ), sm) = 0

/-- It is read off what a device leaves. -/
theorem result_read (c : Dev nD) (s' : Phys nD τ sig (Elt F)) :
    iprop(result m c ∗ emp ∗ SI s') ⊢ (|={Set.univ}=> iprop(⌜Final m c s'.mem⌝ ∗ SI s') : sProp 𝕄) := by
  unfold result
  iintro ⟨⟨Hu, H0, H1, H2⟩, -, HSI⟩
  icombine HSI H0 gives %h0
  icombine HSI H1 gives %h1
  icombine HSI H2 gives %h2
  imod (Pipeline.unscopedSems0_read (X := unscopedSems0 c) (c := c) fupd_intro s') $$ [Hu HSI] with ⟨%hs, HSI⟩
  · isplitl [Hu]; · iexact Hu
    iexact HSI
  imodintro
  isplitr
  · ipureintro; exact ⟨⟨Buf.eq_of_forall_mem_univ h0, Buf.eq_of_forall_mem_univ h1, Buf.eq_of_forall_mem_univ h2⟩, hs⟩
  iexact HSI

end Cert.Run
-- ==== Proof.Launch.lean ====
module

public import proofs.«01_k».proof.Proof.Point

@[expose] public section

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)

variable {F : FTy → Type} [FloatOps F]

local notation "𝕄" => MT nD τ sig Unit (Elt F) ℕ UU ℕ

variable (m : Mem0 F)

/-! ## The run -/

variable (g : Dev nD → PrngReg)

/-- What every device holds at the end: its arguments as they were, the result as computed. -/
def Ends (s : MemSt nD τ sig (Elt F)) : Prop :=
  ∀ c : Dev nD, s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_v1) = outF m (scale m c) c

attribute [local irreducible] cc0_body in
set_option maxRecDepth 8000 in
/-- From any memory with every counter at zero, every weakly fair execution on the four devices ends, with the
    arguments as they were, the result as computed and every counter at zero. -/
theorem run_main : θ_run defs (onTc (τ := τ) (main (F := F))) ⟨m, fun _ => 0, g⟩ (fun r => Ends m r.2 ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m g main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (show own (embR (initOf ringCells ringToks, 1)) ⊢ (own (ER (initOf ringCells ringToks)) : sProp 𝕄) from Entails.rfl) $$ HX
      imod (fund_ring m) $$ HX with HG
      imodintro
      isplitl [HP] <;> iassumption)
    (hglob := glob m)
    (hA := fun _ _ => rfl) (hpf := fun _ k => k.elim0)
    (X := start m) (Y := result m) (Z := fun _ => iprop(emp))
    (hX := start_intro m g) (hin := phi0_intro m) (hout := phi1_exit m)
    (QY := fun c s => Final m c s)
    (hY := result_read m)
    (hQ := fun s h hs => ⟨fun c => ⟨(h c).2.2.1.1, (h c).2.2.1.2.1,
        ((h c).1 0).trans ((dats m 0 c).arrAt_in (0 : Fin 2) rfl _), ((h c).1 1).trans ((dats m 0 c).arrAt_in (1 : Fin 2) rfl _),
        (h c).2.2.1.2.2⟩, sem_eq_zero hs fun c => (h c).2.2.2⟩)

end Cert.Run
-- ==== Proof.Frames.lean ====
module

public import proofs.«01_k».proof.Defs
public import proofs.«01_k».proof.Proof.Gen.Kernel
public import proofs.«01_k».proof.Proof.Launch

@[expose] public section

noncomputable section

namespace Cert.Run

open Idealize.ShloMosaic Idealize.ShloMosaic.TcCoe Idealize.SL.Sem

/-- The ideal kernel runs, keeps its arguments and leaves every counter at zero. -/
theorem frame_kernelIdeal : Cert.quiescent_KernelIdeal (hKernelIdeal := Cert.KernelIdeal.Gen.facts) := fun m g _ =>
  (θ_run Cert.KernelIdeal.defs _ _).mono
    (fun _ h => ⟨fun c => ⟨(h.1 c).1, (h.1 c).2.1, (h.1 c).2.2.1, (h.1 c).2.2.2.1⟩, h.2⟩) (run_main (F := Ideal) m g)

/-- The two kernels have one text, so their runs are one. -/
theorem same_run (m : Mem0 Bits) (g : Dev Cert.KernelIdeal.nD → PrngReg) :
    θ_run (Cert.Kernel.defs (F := Bits)) (onTc (τ := Cert.Kernel.τ) (Cert.Kernel.main (F := Bits))) ⟨m, fun _ => 0, g⟩
      = θ_run (Cert.KernelIdeal.defs (F := Bits)) (onTc (τ := Cert.KernelIdeal.τ) (Cert.KernelIdeal.main (F := Bits))) ⟨m, fun _ => 0, g⟩ := by
  chain_rfl

/-- The kernel runs, keeps its arguments and leaves every counter at zero. -/
theorem frame_kernel : Cert.quiescent_Kernel (hKernel := Cert.Kernel.Gen.facts) := fun m g _ => by
  rw [same_run m g]
  exact (θ_run Cert.KernelIdeal.defs _ _).mono
    (fun _ h => ⟨fun c => ⟨(h.1 c).1, (h.1 c).2.1, (h.1 c).2.2.1, (h.1 c).2.2.2.1⟩, h.2⟩) (run_main (F := Bits) m g)

end Cert.Run
-- ==== Proof.Value.lean ====
module

public import proofs.«01_k».proof.Proof.Tiles
public import proofs.«01_k».proof.Proof.Credit
public import Idealize.ShloMosaic.Lib.MatmulPlain
public import Idealize.ShloMosaic.Lib.ValueIdx
public import Idealize.ShloMosaic.Lib.Layout

@[expose] public section

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)

variable {F : FTy → Type} [FloatOps F]

local notation "𝕄" => MT nD τ sig Unit (Elt F) ℕ UU ℕ

variable (m : Mem0 F)

open Idealize.ShloMosaic.ValueIdx

/-! ## The values of the run -/

section Reshapes

variable {α : Type} {s s' : Shape}

/-- Dropping a unit axis undoes adding it. -/
theorem sq_unsq (h : s.Squeezes s') (w : s'.Idx → α) : sq h (unsq h w) = w := by
  funext j; unfold sq unsq; rw [Equiv.symm_apply_apply]

/-- Adding a unit axis by a cast and dropping it changes nothing. -/
theorem sq_cast (h : s.Squeezes s') (w : s'.Idx → α) (hc : s'.ShapeCasts s) : sq h (shapeCast s w hc) = w := by
  funext j; unfold sq shapeCast; rw [Shape.reshapeEquiv_reshapeEquiv, Shape.reshapeEquiv_self]

/-- Dropping a unit axis by a cast undoes adding it. -/
theorem cast_unsq (h : s.Squeezes s') (w : s'.Idx → α) (hc : s.ShapeCasts s') : shapeCast s' (unsq h w) hc = w := by
  funext j
  show w ((Shape.reshapeEquiv h.numel_eq).symm (Shape.reshapeEquiv hc j)) = w j
  rw [Shape.reshapeEquiv_symm, Shape.reshapeEquiv_reshapeEquiv, Shape.reshapeEquiv_self]

end Reshapes

/-- The rows sent round are the rows of `x`, rounded. -/
theorem xc_eq (c : Dev nD) (d : Bool) (u : Fin 8) : xc m c d u = truncf .fp8e4m3 (xv m c d u) bitsLt_fp8e4m3_f32 := by
  unfold xc castV k0_pay1
  dsimp only
  rw [sq_cast, cast_unsq]

/-- The weights in use are the weights, rounded. -/
theorem wv_eq (c : Dev nD) : wv m c = truncf .fp8e5m2 (m ((c : Thread nD τ).loc main_arg1)) bitsLt_fp8e5m2_f32 := by
  unfold wv k0_pay17
  dsimp only
  funext j; unfold shapeCast; rw [Shape.reshapeEquiv_self]

/-- The rows a piece makes: its product with the weights, scaled and rectified. -/
theorem yv_eq (s : F .f32) (c : Dev nD) (d : Bool) (h : Fin 4) (u : Fin 8) :
    yv m s c d h u = maximumf (mulf (matmul dot_S64x4096_S4096x512_S64x512_1_0_0_1_n_n none (pv m c d h u) (wv m c) (constant S64x512 .f32 0x00000000#32))
      (broadcast S64x512 s)) (broadcast S64x512 (Scalar.ofBits .f32 0x00000000#32)) := by
  unfold yv gemmV k0_pay22
  dsimp only
  rw [sq_cast, cast_unsq]

/-- The device whose rows are held at a hop, by its number. -/
theorem src_val : ∀ (d : Bool) (c : Dev nD) (h : Fin 4), (src d c h).val = (c.val + far d h) % 4 := by decide +kernel

/-- The product a device makes of a row, at the reals. -/
theorem yv_apply (m : Mem0 Ideal) (s : EReal) (c : Dev nD) (d : Bool) (h : Fin 4) (u : Fin 8) (r : Fin 64) (l : Fin 512) :
    yv (F := Ideal) m s c d h u (ix2 r l)
      = max ((∑ k : Fin 4096, xv m (src d c h) d u (ix2 r k) * m ((c : Thread nD τ).loc main_arg1) (ix2 k l)) * s) 0 := by
  rw [yv_eq, maximumf_apply, mulf_apply, broadcast_apply, broadcast_apply]
  have hm : matmul dot_S64x4096_S4096x512_S64x512_1_0_0_1_n_n none (pv m c d h u)
        (wv m c : FVec Ideal S4096x512 .fp8e5m2) (constant S64x512 .f32 0x00000000#32) (ix2 r l)
      = (constant S64x512 .f32 0x00000000#32 : FVec Ideal S64x512 .f32) (ix2 r l) + ∑ k : Fin 4096, pv m c d h u (ix2 r k) * (wv m c : FVec Ideal S4096x512 .fp8e5m2) (ix2 k l) :=
    Ideal.matmul_plain_apply (φ₂ := .fp8e5m2) none (pv m c d h u) (wv m c) (constant S64x512 .f32 0x00000000#32) r l
  have h0 : (Scalar.ofBits .f32 0x00000000#32 : Ideal .f32) = (0 : EReal) := Ideal.ofBits_zero_f32
  have h1 : (constant S64x512 .f32 0x00000000#32 : FVec Ideal S64x512 .f32) (ix2 r l) = (0 : EReal) := Ideal.ofBits_zero_f32
  rw [hm, h0, h1, zero_add, wv_eq]
  unfold pv
  rw [xc_eq]
  rfl

end Cert.Run
-- ==== Proof.Algebra.lean ====
module

public import proofs.«01_k».proof.Defs
public import proofs.«01_k».proof.Proof.Value
public import proofs.«01_k».proof.Proof.Launch
public import proofs.«01_k».proof.Proof.Gen.ReferenceIdeal.Run
public import Idealize.ShloMosaic.Lib.StackMember

@[expose] public section

noncomputable section

namespace Cert.Run

open Idealize.ShloMosaic Idealize.ShloMosaic.TcCoe Idealize.SL.Sem Idealize.ShloMosaic.ValueIdx
open Cert.KernelIdeal Cert.KernelIdeal.Gen

/-! ## The reference -/

/-- The memory of the reference. -/
abbrev Mem1 : Type := (ℓ : Loc Cert.ReferenceIdeal.nD Cert.ReferenceIdeal.τ Cert.ReferenceIdeal.sig) → Buf (Elt Ideal) ℓ

variable (m' : Mem1)

/-- The whole `x`. -/
abbrev wx : (⟨2, ![4096, 4096]⟩ : Shape).Idx → EReal := m' (((0 : Dev Cert.ReferenceIdeal.nD).tc : Thread _ Cert.ReferenceIdeal.τ).loc Cert.ReferenceIdeal.main_arg0)
/-- The whole weights. -/
abbrev ww : (⟨2, ![4096, 2048]⟩ : Shape).Idx → EReal := m' (((0 : Dev Cert.ReferenceIdeal.nD).tc : Thread _ Cert.ReferenceIdeal.τ).loc Cert.ReferenceIdeal.main_arg1)
/-- The scale of `x`. -/
abbrev wsx : (⟨1, ![1]⟩ : Shape).Idx → EReal := m' (((0 : Dev Cert.ReferenceIdeal.nD).tc : Thread _ Cert.ReferenceIdeal.τ).loc Cert.ReferenceIdeal.main_arg2)
/-- The scale of the weights. -/
abbrev wsw : (⟨1, ![1]⟩ : Shape).Idx → EReal := m' (((0 : Dev Cert.ReferenceIdeal.nD).tc : Thread _ Cert.ReferenceIdeal.τ).loc Cert.ReferenceIdeal.main_arg3)

/-- What the reference computes: the scaled and rectified product. -/
def whole : (⟨2, ![4096, 2048]⟩ : Shape).Idx → EReal := fun p =>
  max ((∑ k : Fin 4096, wx m' (ix2 (p 0) k) * ww m' (ix2 k (p 1))) * (wsx m' one0 * wsw m' one0)) 0

/-- A one-element array has one index. -/
theorem one_idx (i : (⟨1, ![1]⟩ : Shape).Idx) : i = one0 := by
  funext a; match a with | ⟨0, _⟩ => exact Subsingleton.elim (α := Fin 1) _ _

/-- The reference's result, entry by entry. -/
theorem reference_value :
    maximumf (F := Ideal) (mulf (Host.dotGeneral (F := Ideal) (φ₁ := .f32) (φ₂ := .f32) Cert.ReferenceIdeal.dot_S4096x4096_S4096x2048_S4096x2048_1_0_0_1_n_n none (wx m') (ww m'))
      (broadcastInDim Cert.ReferenceIdeal.S4096x2048 ![0, 1] Cert.ReferenceIdeal.Gen.bcast_S1x1_S4096x2048_0_1
        (broadcastInDim Cert.ReferenceIdeal.S1x1 ![1] Cert.ReferenceIdeal.Gen.bcast_S1_S1x1_1 (mulf (F := Ideal) (φ := .f32) (wsx m') (wsw m')))))
      (broadcastInDim Cert.ReferenceIdeal.S4096x2048 ![] Cert.ReferenceIdeal.Gen.bcast_S_S4096x2048 (constant Cert.ReferenceIdeal.S_ .f32 0x00000000#32))
    = whole m' := by
  funext p
  rw [maximumf_apply, mulf_apply]
  have hd : Host.dotGeneral (F := Ideal) (φ₁ := .f32) (φ₂ := .f32) Cert.ReferenceIdeal.dot_S4096x4096_S4096x2048_S4096x2048_1_0_0_1_n_n none (wx m') (ww m') p
      = ∑ k : Fin 4096, wx m' (ix2 (p 0) k) * ww m' (ix2 k (p 1)) := by
    conv_lhs => rw [eq_ix2 p]
    exact StackMember.dotGeneral_plain_apply (φ₁ := .f32) (φ₂ := .f32) none (wx m') (ww m') (p 0) (p 1)
  rw [hd]
  exact congrArg₂ max (congrArg ((∑ k : Fin 4096, wx m' (ix2 (p 0) k) * ww m' (ix2 k (p 1))) * ·)
    (congrArg₂ (· * ·) (congrArg (wsx m') (one_idx _)) (congrArg (wsw m') (one_idx _)))) Ideal.ofBits_zero_f32

/-! ## The equation -/

variable (m : Mem0 Ideal)

/-- The arrays of the devices are the parts of the reference's. -/
def Agree : Prop := ∀ c : Dev nD,
  m ((c : Thread nD τ).loc main_arg0) = Layout.block ⟨2, ![1024, 4096]⟩ ⟨2, ![4096, 4096]⟩ 0 4 c (wx m')
    ∧ m ((c : Thread nD τ).loc main_arg1) = Layout.block ⟨2, ![4096, 512]⟩ ⟨2, ![4096, 2048]⟩ 1 4 c (ww m')
    ∧ m ((c : Thread nD τ).loc main_arg2) = wsx m' ∧ m ((c : Thread nD τ).loc main_arg3) = wsw m'

variable {m m'}

/-- The product of the scales is the reference's. -/
theorem scale_value (h : Agree m' m) (c : Dev nD) : scale m c = (wsx m' one0 * wsw m' one0 : EReal) := by
  have ha : stgA m c one0 = wsx m' one0 := (congrFun (h c).2.2.1 _).trans (congrArg (wsx m') (one_idx _))
  have hb : stgB m c one0 = wsw m' one0 := (congrFun (h c).2.2.2 _).trans (congrArg (wsw m') (one_idx _))
  exact congrArg₂ (· * · : EReal → EReal → EReal) ha hb

/-- The first row of a piece's rows, in the device it comes from. -/
theorem first_row (c : Dev nD) (t : I4) :
    (src t.2.1 c t.1).val * 1024 + (512 * t.2.1.toNat + 64 * t.2.2.val) = offO c t.2.1 t.1 t.2.2 0 := by
  rw [offO_0, src_val]; unfold blkO; omega

/-- What a device leaves is its part of what the reference computes. -/
theorem out_value (h : Agree m' m) (c : Dev nD) :
    outF m (scale m c) c = Layout.block ⟨2, ![4096, 512]⟩ ⟨2, ![4096, 2048]⟩ 1 4 c (whole m') := by
  refine Rect.ext_of_cover (rectO c) (out_covers c) fun t j => ?_
  unfold outF
  rw [Rect.glue_emb (rectO c) (out_covers c) (out_disjoint c)]
  obtain ⟨r, l, rfl⟩ : ∃ (r : Fin 64) (l : Fin 512), j = ix2 r l := ⟨j 0, j 1, eq_ix2 j⟩
  rw [yv_apply, scale_value h, Layout.block_apply]
  unfold whole
  refine congrArg (fun q : EReal => max (q * (wsx m' one0 * wsw m' one0)) 0) (Finset.sum_congr rfl fun k _ => ?_)
  refine congrArg₂ (· * · : EReal → EReal → EReal) ((congrFun (h (src t.2.1 c t.1)).1 _).trans (congrArg (wx m') ?_))
    ((congrFun (h c).2.1 _).trans (congrArg (ww m') ?_))
  · funext a
    apply Fin.ext
    match a with
    | ⟨0, _⟩ =>
      show (src t.2.1 c t.1).val * 1024 + (512 * t.2.1.toNat + 64 * t.2.2.val + 1 * r.val) = offO c t.2.1 t.1 t.2.2 0 + 1 * r.val
      rw [← first_row]; omega
    | ⟨1, _⟩ => show 0 + 1 * k.val = k.val; omega
  · funext a
    apply Fin.ext
    match a with
    | ⟨0, _⟩ => rfl
    | ⟨1, _⟩ =>
      show c.val * 512 + l.val = c.val * 512 + (offO c t.2.1 t.1 t.2.2 1 + 1 * l.val)
      rw [offO_1]; omega

/-- On the arrays cut and copied to the devices, the kernel's results are the parts of the reference's. -/
theorem algebraic : Cert.algebraic_KernelIdeal_ReferenceIdeal (hKernelIdeal := Cert.KernelIdeal.Gen.facts)
    (hReferenceIdeal := Cert.ReferenceIdeal.Gen.facts) := fun m g m' g' _ h =>
  ⟨whole m', (θ_run Cert.KernelIdeal.defs _ _).mono
      (fun _ hr c => ⟨((hr.1 c).2.2.2.2).trans (out_value h c), (hr.1 c).1, (hr.1 c).2.1, (hr.1 c).2.2.1, (hr.1 c).2.2.2.1⟩)
      (run_main (F := Ideal) m g),
    (θ_run Cert.ReferenceIdeal.defs _ _).mono
      (fun _ hr => ⟨(hr 0).1.trans (reference_value m'), (hr 0).2⟩)
      (Cert.ReferenceIdeal.Value.run (F := Ideal) m' g')⟩

/-- The reference runs, keeps its arguments and has no counter. -/
theorem frame_referenceIdeal : Cert.quiescent_ReferenceIdeal (hReferenceIdeal := Cert.ReferenceIdeal.Gen.facts) := fun m' g' _ =>
  (θ_run Cert.ReferenceIdeal.defs _ _).mono (fun r hr => ⟨fun c => (hr c).2, sem_eq_zero_of_no_sems (by decide) r.2⟩)
    (Cert.ReferenceIdeal.Value.run (F := Ideal) m' g')

end Cert.Run
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebra
public import Idealize.ShloMosaic.Adequacy
public import Idealize.ShloMosaic.Init

@[expose] public section

noncomputable section

namespace Cert.Proof

/-- The kernel and its reading at the reals run and keep their arguments, so does the reference; the reading is the
    kernel's own text; and its results are the parts of the reference's. -/
theorem claim : Cert.Claim :=
  ⟨Cert.Kernel.Gen.facts, Cert.KernelIdeal.Gen.facts, Cert.ReferenceIdeal.Gen.facts,
    Cert.Run.frame_kernel, Cert.Run.frame_kernelIdeal, Cert.Run.frame_referenceIdeal, trivial, Cert.Run.algebraic⟩

end Cert.Proof

end
